-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v61_0)) (v1 : (c : Dev Cert.Kernel2Ideal.nD) → Buf (Elt Ideal) ((c.tc : Thread Cert.Kernel2Ideal.nD Cert.Kernel2Ideal.τ).loc Cert.Kernel2Ideal.main_v61_5)) (v2 : (c : Dev Cert.Kernel2Ideal.nD) → Buf (Elt Ideal) ((c.tc : Thread Cert.Kernel2Ideal.nD Cert.Kernel2Ideal.τ).loc Cert.Kernel2Ideal.main_v61_6)) (v3 : (c : Dev Cert.Kernel2Ideal.nD) → Buf (Elt Ideal) ((c.tc : Thread Cert.Kernel2Ideal.nD Cert.Kernel2Ideal.τ).loc Cert.Kernel2Ideal.main_v61_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v61_0) = v0 c
          ∧ r.2.mem ((c.tc : Thread Cert.Kernel2Ideal.nD Cert.Kernel2Ideal.τ).loc Cert.Kernel2Ideal.main_v61_5) = v1 c
          ∧ r.2.mem ((c.tc : Thread Cert.Kernel2Ideal.nD Cert.Kernel2Ideal.τ).loc Cert.Kernel2Ideal.main_v61_6) = v2 c
          ∧ r.2.mem ((c.tc : Thread Cert.Kernel2Ideal.nD Cert.Kernel2Ideal.τ).loc Cert.Kernel2Ideal.main_v61_7) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8192x8x256 : Shape := ⟨4, ![4, 8192, 8, 256]⟩
abbrev S4x8192x8x64 : Shape := ⟨4, ![4, 8192, 8, 64]⟩
abbrev S4x8192x256 : Shape := ⟨3, ![4, 8192, 256]⟩
abbrev S4x8192x64 : Shape := ⟨3, ![4, 8192, 64]⟩
abbrev S_ : Shape := ⟨0, ![]⟩

class Facts : Prop where
  bcast_S_S4x8192x8x256 : S_.BroadcastsInDim S4x8192x8x256 (![] : Fin 0 → Fin S4x8192x8x256.rank)
  bcast_S_S4x8192x8x64 : S_.BroadcastsInDim S4x8192x8x64 (![] : Fin 0 → Fin S4x8192x8x64.rank)
  bcast_S_S4x8192x256 : S_.BroadcastsInDim S4x8192x256 (![] : Fin 0 → Fin S4x8192x256.rank)
  bcast_S_S4x8192x64 : S_.BroadcastsInDim S4x8192x64 (![] : Fin 0 → Fin S4x8192x64.rank)

variable [Facts]

def fn {F : FTy → Type} [FloatOps F] (main_arg0 : FVec F S4x8192x8x256 .f32) (main_arg1 : FVec F S4x8192x8x64 .f32) (main_arg2 : FVec F S4x8192x256 .f32) (main_arg3 : FVec F S4x8192x64 .f32) : IVec S4x8192x8x256 1 × IVec S4x8192x8x64 1 × IVec S4x8192x256 1 × IVec S4x8192x64 1 :=
  let main_v0 : FVec F S4x8192x8x256 .f32 := Host.absf main_arg0
  let main_cst : FVec F S_ .f32 := constant S_ .f32 0x7F800000#32
  let main_v1 : FVec F S4x8192x8x256 .f32 := broadcastInDim S4x8192x8x256 ![] bcast_S_S4x8192x8x256 main_cst
  let main_v2 : IVec S4x8192x8x256 1 := cmpf .olt main_v0 main_v1
  let main_v3 : FVec F S4x8192x8x64 .f32 := Host.absf main_arg1
  let main_cst_0 : FVec F S_ .f32 := constant S_ .f32 0x7F800000#32
  let main_v4 : FVec F S4x8192x8x64 .f32 := broadcastInDim S4x8192x8x64 ![] bcast_S_S4x8192x8x64 main_cst_0
  let main_v5 : IVec S4x8192x8x64 1 := cmpf .olt main_v3 main_v4
  let main_v6 : FVec F S4x8192x256 .f32 := Host.absf main_arg2
  let main_cst_1 : FVec F S_ .f32 := constant S_ .f32 0x7F800000#32
  let main_v7 : FVec F S4x8192x256 .f32 := broadcastInDim S4x8192x256 ![] bcast_S_S4x8192x256 main_cst_1
  let main_v8 : IVec S4x8192x256 1 := cmpf .olt main_v6 main_v7
  let main_v9 : FVec F S4x8192x64 .f32 := Host.absf main_arg3
  let main_cst_2 : FVec F S_ .f32 := constant S_ .f32 0x7F800000#32
  let main_v10 : FVec F S4x8192x64 .f32 := broadcastInDim S4x8192x64 ![] bcast_S_S4x8192x64 main_cst_2
  let main_v11 : IVec S4x8192x64 1 := cmpf .olt main_v9 main_v10
  (main_v2, main_v5, main_v8, main_v11)
-- ==== Kernel.lean ====
abbrev S4x8192x8x256 : Shape := ⟨4, ![4, 8192, 8, 256]⟩
abbrev S4x8192x8x64 : Shape := ⟨4, ![4, 8192, 8, 64]⟩
abbrev S4x8192x256 : Shape := ⟨3, ![4, 8192, 256]⟩
abbrev S4x8192x64 : Shape := ⟨3, ![4, 8192, 64]⟩
abbrev S136 : Shape := ⟨1, ![136]⟩
abbrev S_ : Shape := ⟨0, ![]⟩
abbrev S4x8192x8x128 : Shape := ⟨4, ![4, 8192, 8, 128]⟩
abbrev S4x8192x8x384 : Shape := ⟨4, ![4, 8192, 8, 384]⟩
abbrev S64x512x8x384 : Shape := ⟨4, ![64, 512, 8, 384]⟩
abbrev S64x8x512x384 : Shape := ⟨4, ![64, 8, 512, 384]⟩
abbrev S4x8192x128 : Shape := ⟨3, ![4, 8192, 128]⟩
abbrev S4x8192x384 : Shape := ⟨3, ![4, 8192, 384]⟩
abbrev S32768x384 : Shape := ⟨2, ![32768, 384]⟩
abbrev S32768x256 : Shape := ⟨2, ![32768, 256]⟩
abbrev S256x32768 : Shape := ⟨2, ![256, 32768]⟩
abbrev S64x8x512x256 : Shape := ⟨4, ![64, 8, 512, 256]⟩
abbrev S1x8x512x384 : Shape := ⟨4, ![1, 8, 512, 384]⟩
abbrev S1 : Shape := ⟨1, ![1]⟩
abbrev S512x384 : Shape := ⟨2, ![512, 384]⟩
abbrev S256x512 : Shape := ⟨2, ![256, 512]⟩
abbrev S1x8x512x256 : Shape := ⟨4, ![1, 8, 512, 256]⟩
abbrev S1x4096 : Shape := ⟨2, ![1, 4096]⟩
abbrev S256x4096 : Shape := ⟨2, ![256, 4096]⟩
abbrev S4096x384 : Shape := ⟨2, ![4096, 384]⟩
abbrev S512x4096 : Shape := ⟨2, ![512, 4096]⟩
abbrev S4096 : Shape := ⟨1, ![4096]⟩
abbrev S1x512 : Shape := ⟨2, ![1, 512]⟩
abbrev S512x256 : Shape := ⟨2, ![512, 256]⟩
abbrev S1x1x512x256 : Shape := ⟨4, ![1, 1, 512, 256]⟩
abbrev S64x512x8x256 : Shape := ⟨4, ![64, 512, 8, 256]⟩

abbrev nBuf : Space → Nat
  | .hbm => 28
  | .vmem => 11
  | .smem => 2
  | _ => 0

abbrev bufTy : (tb : Table) → Fin (tcTables nBuf tb) → BufTy
  | .hbm, ⟨0, _⟩ => ⟨S4x8192x8x256, .f32⟩
  | .hbm, ⟨1, _⟩ => ⟨S4x8192x8x64, .f32⟩
  | .hbm, ⟨2, _⟩ => ⟨S4x8192x256, .f32⟩
  | .hbm, ⟨3, _⟩ => ⟨S4x8192x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x8x128, .f32⟩
  | .hbm, ⟨11, _⟩ => ⟨S4x8192x8x384, .f32⟩
  | .hbm, ⟨12, _⟩ => ⟨S4x8192x8x384, .f32⟩
  | .hbm, ⟨13, _⟩ => ⟨S4x8192x8x384, .f32⟩
  | .hbm, ⟨14, _⟩ => ⟨S64x512x8x384, .f32⟩
  | .hbm, ⟨15, _⟩ => ⟨S64x8x512x384, .f32⟩
  | .hbm, ⟨16, _⟩ => ⟨S64x8x512x384, .bf16⟩
  | .hbm, ⟨17, _⟩ => ⟨S_, .f32⟩
  | .hbm, ⟨18, _⟩ => ⟨S4x8192x128, .f32⟩
  | .hbm, ⟨19, _⟩ => ⟨S4x8192x384, .f32⟩
  | .hbm, ⟨20, _⟩ => ⟨S32768x384, .f32⟩
  | .hbm, ⟨21, _⟩ => ⟨S32768x384, .bf16⟩
  | .hbm, ⟨22, _⟩ => ⟨S32768x256, .f32⟩
  | .hbm, ⟨23, _⟩ => ⟨S256x32768, .f32⟩
  | .hbm, ⟨24, _⟩ => ⟨S256x32768, .bf16⟩
  | .hbm, ⟨25, _⟩ => ⟨S64x8x512x256, .bf16⟩
  | .hbm, ⟨26, _⟩ => ⟨S64x512x8x256, .bf16⟩
  | .hbm, ⟨27, _⟩ => ⟨S4x8192x8x256, .bf16⟩
  | .local _ .vmem, ⟨0, _⟩ => ⟨S1x8x512x384, .bf16⟩
  | .local _ .vmem, ⟨1, _⟩ => ⟨S1x8x512x384, .bf16⟩
  | .local _ .vmem, ⟨2, _⟩ => ⟨S512x384, .bf16⟩
  | .local _ .vmem, ⟨3, _⟩ => ⟨S512x384, .bf16⟩
  | .local _ .vmem, ⟨4, _⟩ => ⟨S256x512, .bf16⟩
  | .local _ .vmem, ⟨5, _⟩ => ⟨S256x512, .bf16⟩
  | .local _ .vmem, ⟨6, _⟩ => ⟨S1x8x512x256, .bf16⟩
  | .local _ .vmem, ⟨7, _⟩ => ⟨S1x8x512x256, .bf16⟩
  | .local _ .vmem, ⟨8, _⟩ => ⟨S1x4096, .f32⟩
  | .local _ .vmem, ⟨9, _⟩ => ⟨S1x4096, .f32⟩
  | .local _ .vmem, ⟨10, _⟩ => ⟨S256x4096, .f32⟩
  | .local _ .smem, ⟨0, _⟩ => ⟨S136, .i32⟩
  | .local _ .smem, ⟨1, _⟩ => ⟨S136, .i32⟩
  | _, _ => ⟨S4x8192x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond4 (v1 : BitVec 32) (v3 : BitVec 32) : BitVec 1 :=
  let c1_i32_5 : BitVec 32 := 1#32
  let v17 : BitVec 32 := Scalar.addi v3 c1_i32_5
  let c512_i32_6 : BitVec 32 := 512#32
  let v18 : BitVec 32 := Scalar.muli v17 c512_i32_6
  let c1_i32_7 : BitVec 32 := 1#32
  let v19 : BitVec 32 := Scalar.addi v1 c1_i32_7
  let c512_i32_8 : BitVec 32 := 512#32
  let v20 : BitVec 32 := Scalar.muli v19 c512_i32_8
  let v21 : BitVec 1 := Scalar.cmpi .sge v18 v20
  let v22 : BitVec 32 := Scalar.extui v21
  let c0_i32_9 : BitVec 32 := 0#32
  let v23 : BitVec 1 := Scalar.cmpi .ne v22 c0_i32_9
  v23

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_3 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

abbrev stage0_0 : Fin 2 → Memref sig .tc .vmem S1x8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8192x8x256 : Shape := ⟨4, ![4, 8192, 8, 256]⟩
abbrev S4x8192x8x64 : Shape := ⟨4, ![4, 8192, 8, 64]⟩
abbrev S4x8192x256 : Shape := ⟨3, ![4, 8192, 256]⟩
abbrev S4x8192x64 : Shape := ⟨3, ![4, 8192, 64]⟩
abbrev S_ : Shape := ⟨0, ![]⟩
abbrev S4x8192x8192x8 : Shape := ⟨4, ![4, 8192, 8192, 8]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x256x8x8192 : Shape := ⟨4, ![4, 256, 8, 8192]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x8x256, .f32⟩
  | .hbm, ⟨1, _⟩ => ⟨S4x8192x8x64, .f32⟩
  | .hbm, ⟨2, _⟩ => ⟨S4x8192x256, .f32⟩
  | .hbm, ⟨3, _⟩ => ⟨S4x8192x64, .f32⟩
  | .hbm, ⟨4, _⟩ => ⟨S_, .f32⟩
  | .hbm, ⟨5, _⟩ => ⟨S_, .f32⟩
  | .hbm, ⟨6, _⟩ => ⟨S4x8192x8192x8, .f32⟩
  | .hbm, ⟨7, _⟩ => ⟨S4x8x8192x8192, .f32⟩
  | .hbm, ⟨8, _⟩ => ⟨S4x8192x8192x8, .f32⟩
  | .hbm, ⟨9, _⟩ => ⟨S4x8x8192x8192, .f32⟩
  | .hbm, ⟨10, _⟩ => ⟨S4x8x8192x8192, .f32⟩
  | .hbm, ⟨11, _⟩ => ⟨S4x8x8192x8192, .f32⟩
  | .hbm, ⟨12, _⟩ => ⟨S4x8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S4x8x8192x8192, .i1⟩
  | .hbm, ⟨22, _⟩ => ⟨S4x8x8192x8192, .f32⟩
  | .hbm, ⟨23, _⟩ => ⟨S4x8x8192x8192, .f32⟩
  | .hbm, ⟨24, _⟩ => ⟨S_, .f32⟩
  | .hbm, ⟨25, _⟩ => ⟨S4x8x8192, .f32⟩
  | .hbm, ⟨26, _⟩ => ⟨S_, .f32⟩
  | .hbm, ⟨27, _⟩ => ⟨S4x8x8192, .f32⟩
  | .hbm, ⟨28, _⟩ => ⟨S4x8x8192, .f32⟩
  | .hbm, ⟨29, _⟩ => ⟨S4x8x8192x1, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S_, .f32⟩
  | .hbm, ⟨34, _⟩ => ⟨S4x8x8192, .f32⟩
  | .hbm, ⟨35, _⟩ => ⟨S4x8x8192x1, .f32⟩
  | .hbm, ⟨36, _⟩ => ⟨S4x8x8192x8192, .f32⟩
  | .hbm, ⟨37, _⟩ => ⟨S4x8x8192x8192, .f32⟩
  | .hbm, ⟨38, _⟩ => ⟨S4x256x8x8192, .f32⟩
  | .hbm, ⟨39, _⟩ => ⟨S4x8192x8x256, .f32⟩
  | .hbm, ⟨40, _⟩ => ⟨S4x8192x8x256, .bf16⟩
  | _, _ => ⟨S4x8192x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024x5840 : Shape := ⟨2, ![1024, 5840]⟩
abbrev S384 : Shape := ⟨1, ![384]⟩
abbrev S384x1536 : Shape := ⟨2, ![384, 1536]⟩
abbrev S256 : Shape := ⟨1, ![256]⟩
abbrev S256x8x128 : Shape := ⟨3, ![256, 8, 128]⟩
abbrev S16x512 : Shape := ⟨2, ![16, 512]⟩
abbrev S512 : Shape := ⟨1, ![512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S1024x384 : Shape := ⟨2, ![1024, 384]⟩
abbrev S1024x256 : Shape := ⟨2, ![1024, 256]⟩
abbrev S1024x64 : Shape := ⟨2, ![1024, 64]⟩
abbrev S1024x512 : Shape := ⟨2, ![1024, 512]⟩
abbrev S1024x1024 : Shape := ⟨2, ![1024, 1024]⟩
abbrev S1024x16 : Shape := ⟨2, ![1024, 16]⟩
abbrev S1024x128 : Shape := ⟨2, ![1024, 128]⟩
abbrev S1024x32 : Shape := ⟨2, ![1024, 32]⟩
abbrev S1024x896 : Shape := ⟨2, ![1024, 896]⟩
abbrev S384x8x192 : Shape := ⟨3, ![384, 8, 192]⟩
abbrev S384x8x64 : Shape := ⟨3, ![384, 8, 64]⟩
abbrev S384x8x128 : Shape := ⟨3, ![384, 8, 128]⟩
abbrev S384x1024 : Shape := ⟨2, ![384, 1024]⟩
abbrev S384x8x32 : Shape := ⟨3, ![384, 8, 32]⟩
abbrev S384x3072 : Shape := ⟨2, ![384, 3072]⟩
abbrev S1024x2176 : Shape := ⟨2, ![1024, 2176]⟩
abbrev S8x128x256 : Shape := ⟨3, ![8, 128, 256]⟩
abbrev S128x512 : Shape := ⟨2, ![128, 512]⟩
abbrev S1x512 : Shape := ⟨2, ![1, 512]⟩
abbrev S1x384 : Shape := ⟨2, ![1, 384]⟩
abbrev S1x256 : Shape := ⟨2, ![1, 256]⟩
abbrev S32768x256 : Shape := ⟨2, ![32768, 256]⟩
abbrev S32768x64 : Shape := ⟨2, ![32768, 64]⟩
abbrev S32768x384 : Shape := ⟨2, ![32768, 384]⟩
abbrev S256x32768 : Shape := ⟨2, ![256, 32768]⟩
abbrev S64x8x512x384 : Shape := ⟨4, ![64, 8, 512, 384]⟩
abbrev S32768x512 : Shape := ⟨2, ![32768, 512]⟩
abbrev S32768x1024 : Shape := ⟨2, ![32768, 1024]⟩
abbrev S1x512x1024 : Shape := ⟨3, ![1, 512, 1024]⟩
abbrev S1x1x1024 : Shape := ⟨3, ![1, 1, 1024]⟩
abbrev S512x128 : Shape := ⟨2, ![512, 128]⟩
abbrev S512x256 : Shape := ⟨2, ![512, 256]⟩
abbrev S512x64 : Shape := ⟨2, ![512, 64]⟩
abbrev S512x384 : Shape := ⟨2, ![512, 384]⟩
abbrev S256x512 : Shape := ⟨2, ![256, 512]⟩
abbrev S1x8x512x384 : Shape := ⟨4, ![1, 8, 512, 384]⟩
abbrev S512x512 : Shape := ⟨2, ![512, 512]⟩
abbrev S512x1024 : Shape := ⟨2, ![512, 1024]⟩
abbrev S512x896 : Shape := ⟨2, ![512, 896]⟩
abbrev S512x1 : Shape := ⟨2, ![512, 1]⟩
abbrev S512x3072 : Shape := ⟨2, ![512, 3072]⟩
abbrev S1x128x256 : Shape := ⟨3, ![1, 128, 256]⟩
abbrev S128x256 : Shape := ⟨2, ![128, 256]⟩
abbrev S1x1x512x256 : Shape := ⟨4, ![1, 1, 512, 256]⟩
abbrev S1x1x512x128 : Shape := ⟨4, ![1, 1, 512, 128]⟩
abbrev S512x2176 : Shape := ⟨2, ![512, 2176]⟩

abbrev nBuf : Space → Nat
  | .hbm => 98
  | .vmem => 36
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x5840, .f32⟩
  | .hbm, ⟨4, _⟩ => ⟨S384, .f32⟩
  | .hbm, ⟨5, _⟩ => ⟨S384x1536, .f32⟩
  | .hbm, ⟨6, _⟩ => ⟨S256, .f32⟩
  | .hbm, ⟨7, _⟩ => ⟨S256x8x128, .f32⟩
  | .hbm, ⟨8, _⟩ => ⟨S16x512, .f32⟩
  | .hbm, ⟨9, _⟩ => ⟨S512, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .i32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x64, .f32⟩
  | .hbm, ⟨27, _⟩ => ⟨S_, .i32⟩
  | .hbm, ⟨28, _⟩ => ⟨S_, .f32⟩
  | .hbm, ⟨29, _⟩ => ⟨S8192x128, .f32⟩
  | .hbm, ⟨30, _⟩ => ⟨S8192x32, .f32⟩
  | .hbm, ⟨31, _⟩ => ⟨S8192x64, .f32⟩
  | .hbm, ⟨32, _⟩ => ⟨S_, .i32⟩
  | .hbm, ⟨33, _⟩ => ⟨S_, .f32⟩
  | .hbm, ⟨34, _⟩ => ⟨S8192x128, .f32⟩
  | .hbm, ⟨35, _⟩ => ⟨S1024x384, .f32⟩
  | .hbm, ⟨36, _⟩ => ⟨S1024x256, .f32⟩
  | .hbm, ⟨37, _⟩ => ⟨S1024x64, .f32⟩
  | .hbm, ⟨38, _⟩ => ⟨S1024x512, .f32⟩
  | .hbm, ⟨39, _⟩ => ⟨S1024x512, .f32⟩
  | .hbm, ⟨40, _⟩ => ⟨S1024x1024, .f32⟩
  | .hbm, ⟨41, _⟩ => ⟨S1024x1024, .f32⟩
  | .hbm, ⟨42, _⟩ => ⟨S1024x16, .f32⟩
  | .hbm, ⟨43, _⟩ => ⟨S1024x1024, .f32⟩
  | .hbm, ⟨44, _⟩ => ⟨S1024x1024, .f32⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S1024x32, .f32⟩
  | .hbm, ⟨49, _⟩ => ⟨S1024x32, .f32⟩
  | .hbm, ⟨50, _⟩ => ⟨S1024x32, .f32⟩
  | .hbm, ⟨51, _⟩ => ⟨S1024x64, .f32⟩
  | .hbm, ⟨52, _⟩ => ⟨S_, .i32⟩
  | .hbm, ⟨53, _⟩ => ⟨S_, .f32⟩
  | .hbm, ⟨54, _⟩ => ⟨S1024x128, .f32⟩
  | .hbm, ⟨55, _⟩ => ⟨S1024x896, .f32⟩
  | .hbm, ⟨56, _⟩ => ⟨S384x8x192, .f32⟩
  | .hbm, ⟨57, _⟩ => ⟨S384x8x64, .f32⟩
  | .hbm, ⟨58, _⟩ => ⟨S384x8x128, .f32⟩
  | .hbm, ⟨59, _⟩ => ⟨S384x1024, .f32⟩
  | .hbm, ⟨60, _⟩ => ⟨S_, .i32⟩
  | .hbm, ⟨61, _⟩ => ⟨S_, .f32⟩
  | .hbm, ⟨62, _⟩ => ⟨S384x8x128, .f32⟩
  | .hbm, ⟨63, _⟩ => ⟨S384x1024, .f32⟩
  | .hbm, ⟨64, _⟩ => ⟨S384x8x32, .f32⟩
  | .hbm, ⟨65, _⟩ => ⟨S384x8x32, .f32⟩
  | .hbm, ⟨66, _⟩ => ⟨S384x8x32, .f32⟩
  | .hbm, ⟨67, _⟩ => ⟨S384x8x64, .f32⟩
  | .hbm, ⟨68, _⟩ => ⟨S_, .i32⟩
  | .hbm, ⟨69, _⟩ => ⟨S_, .f32⟩
  | .hbm, ⟨70, _⟩ => ⟨S384x8x128, .f32⟩
  | .hbm, ⟨71, _⟩ => ⟨S384x1024, .f32⟩
  | .hbm, ⟨72, _⟩ => ⟨S384x3072, .f32⟩
  | .hbm, ⟨73, _⟩ => ⟨S_, .i32⟩
  | .hbm, ⟨74, _⟩ => ⟨S_, .f32⟩
  | .hbm, ⟨75, _⟩ => ⟨S1024x128, .f32⟩
  | .hbm, ⟨76, _⟩ => ⟨S1024x2176, .f32⟩
  | .hbm, ⟨77, _⟩ => ⟨S1024x896, .bf16⟩
  | .hbm, ⟨78, _⟩ => ⟨S384x3072, .bf16⟩
  | .hbm, ⟨79, _⟩ => ⟨S1024x2176, .bf16⟩
  | .hbm, ⟨80, _⟩ => ⟨S8x128x256, .f32⟩
  | .hbm, ⟨81, _⟩ => ⟨S8x128x256, .bf16⟩
  | .hbm, ⟨82, _⟩ => ⟨S_, .i32⟩
  | .hbm, ⟨83, _⟩ => ⟨S_, .f32⟩
  | .hbm, ⟨84, _⟩ => ⟨S128x512, .f32⟩
  | .hbm, ⟨85, _⟩ => ⟨S128x512, .bf16⟩
  | .hbm, ⟨86, _⟩ => ⟨S1x512, .f32⟩
  | .hbm, ⟨87, _⟩ => ⟨S1x384, .f32⟩
  | .hbm, ⟨88, _⟩ => ⟨S1x256, .f32⟩
  | .hbm, ⟨89, _⟩ => ⟨S32768x256, .f32⟩
  | .hbm, ⟨90, _⟩ => ⟨S32768x64, .f32⟩
  | .hbm, ⟨91, _⟩ => ⟨S32768x384, .bf16⟩
  | .hbm, ⟨92, _⟩ => ⟨S256x32768, .bf16⟩
  | .hbm, ⟨93, _⟩ => ⟨S64x8x512x384, .bf16⟩
  | .hbm, ⟨94, _⟩ => ⟨S32768x512, .f32⟩
  | .hbm, ⟨95, _⟩ => ⟨S32768x512, .f32⟩
  | .hbm, ⟨96, _⟩ => ⟨S32768x1024, .bf16⟩
  | .hbm, ⟨97, _⟩ => ⟨S32768x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x896, .bf16⟩
  | .local _ .vmem, ⟨11, _⟩ => ⟨S384x3072, .bf16⟩
  | .local _ .vmem, ⟨12, _⟩ => ⟨S8x128x256, .bf16⟩
  | .local _ .vmem, ⟨13, _⟩ => ⟨S1024x2176, .bf16⟩
  | .local _ .vmem, ⟨14, _⟩ => ⟨S128x512, .bf16⟩
  | .local _ .vmem, ⟨15, _⟩ => ⟨S1x512, .f32⟩
  | .local _ .vmem, ⟨16, _⟩ => ⟨S1x384, .f32⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S512x64, .f32⟩
  | .local _ .vmem, ⟨21, _⟩ => ⟨S512x64, .f32⟩
  | .local _ .vmem, ⟨22, _⟩ => ⟨S512x384, .bf16⟩
  | .local _ .vmem, ⟨23, _⟩ => ⟨S512x384, .bf16⟩
  | .local _ .vmem, ⟨24, _⟩ => ⟨S256x512, .bf16⟩
  | .local _ .vmem, ⟨25, _⟩ => ⟨S256x512, .bf16⟩
  | .local _ .vmem, ⟨26, _⟩ => ⟨S1x8x512x384, .bf16⟩
  | .local _ .vmem, ⟨27, _⟩ => ⟨S1x8x512x384, .bf16⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x1024, .bf16⟩
  | .local _ .vmem, ⟨33, _⟩ => ⟨S512x1024, .bf16⟩
  | .local _ .vmem, ⟨34, _⟩ => ⟨S512x512, .f32⟩
  | .local _ .vmem, ⟨35, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_call1_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_call2_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_3 : Ref sig .tc := ⟨.hbm, 52, rfl⟩
abbrev main_call3_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_call4_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_5 : Ref sig .tc := ⟨.hbm, 68, rfl⟩
abbrev main_call5_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_call6_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_7 : Ref sig .tc := ⟨.hbm, 82, rfl⟩
abbrev main_call7_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_v61_2 : Ref sig .tc := ⟨.hbm, 91, rfl⟩
abbrev main_v61_3 : Ref sig .tc := ⟨.hbm, 92, rfl⟩
abbrev main_v61_4 : Ref sig .tc := ⟨.hbm, 93, rfl⟩
abbrev main_v61_5 : Ref sig .tc := ⟨.hbm, 94, rfl⟩
abbrev main_v61_6 : Ref sig .tc := ⟨.hbm, 95, rfl⟩
abbrev main_v61_7 : Ref sig .tc := ⟨.hbm, 96, rfl⟩
abbrev main_v61_8 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2176 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S4x8192x1024 : Shape := ⟨3, ![4, 8192, 1024]⟩
abbrev S4x1x1024 : Shape := ⟨3, ![4, 1, 1024]⟩
abbrev S1024x5840 : Shape := ⟨2, ![1024, 5840]⟩
abbrev S384 : Shape := ⟨1, ![384]⟩
abbrev S384x1536 : Shape := ⟨2, ![384, 1536]⟩
abbrev S256 : Shape := ⟨1, ![256]⟩
abbrev S256x8x128 : Shape := ⟨3, ![256, 8, 128]⟩
abbrev S16x512 : Shape := ⟨2, ![16, 512]⟩
abbrev S512 : Shape := ⟨1, ![512]⟩
abbrev S_ : Shape := ⟨0, ![]⟩
abbrev S4x8192x5840 : Shape := ⟨3, ![4, 8192, 5840]⟩
abbrev S4x8192x256 : Shape := ⟨3, ![4, 8192, 256]⟩
abbrev S4x8192 : Shape := ⟨2, ![4, 8192]⟩
abbrev S4x8192x1 : Shape := ⟨3, ![4, 8192, 1]⟩
abbrev S1x1x256 : Shape := ⟨3, ![1, 1, 256]⟩
abbrev S4x8192x512 : Shape := ⟨3, ![4, 8192, 512]⟩
abbrev S32768x256 : Shape := ⟨2, ![32768, 256]⟩
abbrev S32768x512 : Shape := ⟨2, ![32768, 512]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x5840, .f32⟩
  | .hbm, ⟨4, _⟩ => ⟨S384, .f32⟩
  | .hbm, ⟨5, _⟩ => ⟨S384x1536, .f32⟩
  | .hbm, ⟨6, _⟩ => ⟨S256, .f32⟩
  | .hbm, ⟨7, _⟩ => ⟨S256x8x128, .f32⟩
  | .hbm, ⟨8, _⟩ => ⟨S16x512, .f32⟩
  | .hbm, ⟨9, _⟩ => ⟨S512, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x5840, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x256, .f32⟩
  | .hbm, ⟨31, _⟩ => ⟨S4x8192x256, .f32⟩
  | .hbm, ⟨32, _⟩ => ⟨S1x1x256, .f32⟩
  | .hbm, ⟨33, _⟩ => ⟨S4x8192x256, .f32⟩
  | .hbm, ⟨34, _⟩ => ⟨S4x8192x256, .f32⟩
  | .hbm, ⟨35, _⟩ => ⟨S4x8192x512, .f32⟩
  | .hbm, ⟨36, _⟩ => ⟨S4x8192x512, .f32⟩
  | .hbm, ⟨37, _⟩ => ⟨S4x8192x1024, .f32⟩
  | .hbm, ⟨38, _⟩ => ⟨S32768x256, .f32⟩
  | .hbm, ⟨39, _⟩ => ⟨S_, .f32⟩
  | .hbm, ⟨40, _⟩ => ⟨S4x8192x512, .f32⟩
  | .hbm, ⟨41, _⟩ => ⟨S4x8192x512, .f32⟩
  | .hbm, ⟨42, _⟩ => ⟨S32768x512, .f32⟩
  | .hbm, ⟨43, _⟩ => ⟨S32768x512, .f32⟩
  | .hbm, ⟨44, _⟩ => ⟨S32768x1024, .f32⟩
  | .hbm, ⟨45, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.Cfg.lean ====
/- The pipeline at the two block tables the program prefetches (for each step of a sequence, its query block and its key
   block): the side condition, the decisions of a grid point and the schedule of the output's block. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Decide
public import Idealize.ShloMosaic.Lib.Tactic
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

/-- The tables and the scratch buffers the kernel is handed, whole. -/
abbrev tbM0 : Memref sig .tc .smem S136 .i32 := Memref.whole main_c
abbrev tbM1 : Memref sig .tc .smem S136 .i32 := Memref.whole main_c_0
abbrev scM0 : Memref sig .tc .vmem S1x4096 .f32 := Memref.whole cc0_scratch0
abbrev scM1 : Memref sig .tc .vmem S1x4096 .f32 := Memref.whole cc0_scratch1
abbrev scM2 : Memref sig .tc .vmem S256x4096 .f32 := Memref.whole cc0_scratch2

/-- The table of query blocks and the table of key blocks. -/
def T0 : S136.Idx → Elt F .i32 := fun i => lit0 (S136.rowMajor i)
def T1 : S136.Idx → Elt F .i32 := fun i => lit1 (S136.rowMajor i)

set_option backward.proofsInPublic true in
/-- The tables' contents the pipeline runs at. -/
def pfN : pre0.Contents (Elt F) := fun | ⟨0, _⟩ => T0 | ⟨1, _⟩ => T1 | ⟨_ + 2, h⟩ => absurd h (by simp)

/-- What the body reads of the two tables at a grid point. -/
abbrev w0 (i : grid0.Coords) : Elt F .i32 := View.readAt (Elt F) (tbM0).view (Rect.unit (s := S136) (k0_off1 i) S1.size (k0_off1_inb i)).toLoadRect T0 (Shape.Idx.first (numel1_S1.symm ▸ Nat.one_pos))
abbrev w1 (i : grid0.Coords) : Elt F .i32 := View.readAt (Elt F) (tbM1).view (Rect.unit (s := S136) (k0_off1 i) S1.size (k0_off1_inb i)).toLoadRect T1 (Shape.Idx.first (numel1_S1.symm ▸ Nat.one_pos))

/-- Every block of the queries that the tables name lies inside the array. -/
theorem ok_0_inb : ∀ i : grid0.Coords, ∀ a, (cc0_transform_0 k0_off1_inb numel1_S1 (pfN (F := F)) i a + 1) * S1x8x512x384.size a ≤ S64x8x512x384.size a :=
  of_decide_eq_true (by sl_kernel_rfl)
/-- Every block of the keys that the tables name lies inside the array. -/
theorem ok_1_inb : ∀ i : grid0.Coords, ∀ a, (cc0_transform_1 k0_off1_inb numel1_S1 (pfN (F := F)) i a + 1) * S512x384.size a ≤ S32768x384.size a :=
  of_decide_eq_true (by sl_kernel_rfl)
/-- Every block of the values that the tables name lies inside the array. -/
theorem ok_2_inb : ∀ i : grid0.Coords, ∀ a, (cc0_transform_2 k0_off1_inb numel1_S1 (pfN (F := F)) i a + 1) * S256x512.size a ≤ S256x32768.size a :=
  of_decide_eq_true (by sl_kernel_rfl)
/-- Every block of the result that the tables name lies inside the array. -/
theorem ok_3_inb : ∀ i : grid0.Coords, ∀ a, (cc0_transform_3 k0_off1_inb numel1_S1 (pfN (F := F)) i a + 1) * S1x8x512x256.size a ≤ S64x8x512x256.size a :=
  of_decide_eq_true (by sl_kernel_rfl)

/-- Every block the tables name lies inside its array, and its transfer ends on whole words. -/
theorem ok_pfN : ok0 (F := F) pfN :=
  ⟨fun i => ⟨ok_0_inb i, .inr (Affine.block_words_dvd (s := S64x8x512x384) (p := EltTy.packing .bf16) (by decide) (by decide))⟩,
   fun i => ⟨ok_1_inb i, .inr (Affine.block_words_dvd (s := S32768x384) (p := EltTy.packing .bf16) (by decide) (by decide))⟩,
   fun i => ⟨ok_2_inb i, .inr (Affine.block_words_dvd (s := S256x32768) (p := EltTy.packing .bf16) (by decide) (by decide))⟩,
   fun i => ⟨ok_3_inb i, .inr (Affine.block_words_dvd (s := S64x8x512x256) (p := EltTy.packing .bf16) (by decide) (by decide))⟩⟩

/-- The pipeline at the tables. -/
def adm : (pcfg0 (F := F)).Adm := ⟨pfN, ok_pfN⟩
abbrev cfgA : Pipeline.Cfg sig Λ₀ := cfg0 (F := F) adm
abbrev pcs : Fin 1 → Pipeline.Cfg sig Λ₀ := Pipeline.pin (pcfgs (F := F)) fun _ => adm

/-- A point's coordinates. -/
abbrev crd (t : Fin (cfgA (F := F)).N) : (cfgA (F := F)).grid.Coords := (cfgA (F := F)).grid.coords t

/-- The body starts a query block (its key block is the first). -/
abbrev c0 (i : grid0.Coords) : BitVec 1 := Scalar.cmpi .ne (Scalar.extui (Scalar.cmpi .eq (w1 (F := F) i) 0#32)) 0#32
/-- The key block reaches past the first query of the query block. -/
abbrev c1 (i : grid0.Coords) : BitVec 1 := Scalar.cmpi .ne (Scalar.extui (Scalar.cmpi .sgt (Scalar.subi (Scalar.muli (Scalar.addi (w1 (F := F) i) 1#32) 512#32) 1#32) (Scalar.muli (w0 (F := F) i) 512#32))) 0#32
/-- It does not. -/
abbrev c2 (i : grid0.Coords) : BitVec 1 := Scalar.cmpi .ne (Scalar.extui (Scalar.xori (Scalar.cmpi .sgt (Scalar.subi (Scalar.muli (Scalar.addi (w1 (F := F) i) 1#32) 512#32) 1#32) (Scalar.muli (w0 (F := F) i) 512#32)) 1#1)) 0#32
/-- The key block is the query block's last. -/
abbrev c3 (i : grid0.Coords) : BitVec 1 := k0_cond4 (w0 (F := F) i) (w1 (F := F) i)

/-- The facts of a point: the two masked branches exclude each other, the last step is the masked one, and the output's
    block is stored and written back exactly there. -/
abbrev FactsAt (t : Fin (cfgA (F := F)).N) : Prop :=
  ((c1 (F := F) (crd t) = 1#1) ↔ ¬ (c2 (F := F) (crd t) = 1#1)) ∧ ((c1 (F := F) (crd t) = 1#1) ↔ (c3 (F := F) (crd t) = 1#1))
  ∧ ((cfgA (F := F)).idle (3 : Fin 4) ((cfgA (F := F)).grid.coords t) = !(c1 (F := F) (crd t) == 1#1))
  ∧ (((cfgA (F := F)).win (3 : Fin 4)).flush t = (c1 (F := F) (crd t) == 1#1))
  ∧ (t.val = 0 → c0 (F := F) (crd t) = 1#1)

/-- The conditions at a stretch of the grid's points. -/
theorem facts_0 : ∀ t : Fin (cfgA (F := F)).N, 0 ≤ t.val → t.val < 68 → FactsAt t := of_decide_eq_true (by sl_kernel_rfl)
/-- The conditions at a stretch of the grid's points. -/
theorem facts_1 : ∀ t : Fin (cfgA (F := F)).N, 68 ≤ t.val → t.val < 136 → FactsAt t := of_decide_eq_true (by sl_kernel_rfl)
/-- The conditions at a stretch of the grid's points. -/
theorem facts_2 : ∀ t : Fin (cfgA (F := F)).N, 136 ≤ t.val → t.val < 204 → FactsAt t := of_decide_eq_true (by sl_kernel_rfl)
/-- The conditions at a stretch of the grid's points. -/
theorem facts_3 : ∀ t : Fin (cfgA (F := F)).N, 204 ≤ t.val → t.val < 272 → FactsAt t := of_decide_eq_true (by sl_kernel_rfl)
/-- The conditions at a stretch of the grid's points. -/
theorem facts_4 : ∀ t : Fin (cfgA (F := F)).N, 272 ≤ t.val → t.val < 340 → FactsAt t := of_decide_eq_true (by sl_kernel_rfl)
/-- The conditions at a stretch of the grid's points. -/
theorem facts_5 : ∀ t : Fin (cfgA (F := F)).N, 340 ≤ t.val → t.val < 408 → FactsAt t := of_decide_eq_true (by sl_kernel_rfl)
/-- The conditions at a stretch of the grid's points. -/
theorem facts_6 : ∀ t : Fin (cfgA (F := F)).N, 408 ≤ t.val → t.val < 476 → FactsAt t := of_decide_eq_true (by sl_kernel_rfl)
/-- The conditions at a stretch of the grid's points. -/
theorem facts_7 : ∀ t : Fin (cfgA (F := F)).N, 476 ≤ t.val → t.val < 544 → FactsAt t := of_decide_eq_true (by sl_kernel_rfl)

/-- The conditions at every point of the grid. -/
theorem facts : ∀ t : Fin (cfgA (F := F)).N, FactsAt t := fun t => by
  have h0 : 0 ≤ t.val := Nat.zero_le _
  rcases Nat.lt_or_ge t.val 68 with h1 | h1; · exact facts_0 t h0 h1
  rcases Nat.lt_or_ge t.val 136 with h2 | h2; · exact facts_1 t h1 h2
  rcases Nat.lt_or_ge t.val 204 with h3 | h3; · exact facts_2 t h2 h3
  rcases Nat.lt_or_ge t.val 272 with h4 | h4; · exact facts_3 t h3 h4
  rcases Nat.lt_or_ge t.val 340 with h5 | h5; · exact facts_4 t h4 h5
  rcases Nat.lt_or_ge t.val 408 with h6 | h6; · exact facts_5 t h5 h6
  rcases Nat.lt_or_ge t.val 476 with h7 | h7; · exact facts_6 t h6 h7
  exact facts_7 t h7 t.isLt

/-- Nothing is kept in the output's buffer from one point to the next: it is fresh before every point. -/
theorem fresh_out : ∀ n, n ≤ (cfgA (F := F)).N → (cfgA (F := F)).fresh (3 : Fin 4) n = true :=
  fun n h => (Pipeline.Cfg.fresh_tab (cfgA (F := F)) (3 : Fin 4) (fun _ => true) rfl (fun t => by
    rw [(facts t).2.2.1, (facts t).2.2.2.1]; simp) n h)

end Cert.KernelIdeal.Attn

end
-- ==== Proof.RunA.lean ====
/- The body at the one step of a query block that is both its first and its last. -/
module

public import proofs.«01_k».proof.Proof.Cfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- The step that starts a query block and ends it: what it leaves in the output's buffer, as the pieces stored, and in the three scratch buffers, with the run of the body to it. -/
noncomputable def runA (c : Dev nD) (i : grid0.Coords) (arg4 : Memref sig .tc .vmem S1x8x512x384 .bf16) (harg4 : arg4.IsWhole) (arg5 : Memref sig .tc .vmem S512x384 .bf16) (harg5 : arg5.IsWhole) (arg6 : Memref sig .tc .vmem S256x512 .bf16) (harg6 : arg6.IsWhole) (arg7 : Memref sig .tc .vmem S1x8x512x256 .bf16) (harg7 : arg7.IsWhole)
    (x0 : S1x8x512x384.Idx → Elt F .bf16) (x1 : S512x384.Idx → Elt F .bf16) (x2 : S256x512.Idx → Elt F .bf16)
    (hc0 : c0 (F := F) i = 1#1) (hc1 : c1 (F := F) i = 1#1) (hc2 : ¬ c2 (F := F) i = 1#1) (hc3 : c3 (F := F) i = 1#1) :
    Σ' (out0 : List (View.Piece (Elt F) S1x8x512x256 .bf16)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xa0)
          ∗ (scM1.view.loc (c : Thread nD τ) ↦{fullShare} xa1)
          ∗ (scM2.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ (∃ f, arg7.view.loc (c : Thread nD τ) ↦[arg7.view.set]{fullShare} arg7.view.writes (Elt F) f out0)
          ∗ (scM0.view.loc (c : Thread nD τ) ↦{fullShare} out1)
          ∗ (scM1.view.loc (c : Thread nD τ) ↦{fullShare} out2)
          ∗ (scM2.view.loc (c : Thread nD τ) ↦{fullShare} out3)) -∗ K ⟨⟩))
          ⊢ wp frame (wpE (defs₀ (F := F)) Variants.none c none) Set.univ (cc0_mla_prompt_attn i tbM0 (Memref.isWhole_whole _) tbM1 (Memref.isWhole_whole _) arg4 harg4 arg5 harg5 arg6 harg6 arg7 harg7 scM0 (Memref.isWhole_whole _) scM1 (Memref.isWhole_whole _) scM2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄) => by
    unfold owns
    rw [cc0_mla_prompt_attn_eq_skeleton]; unfold cc0_mla_prompt_attn_skel
    iintro ⟨H0, H1, H2, HT0, HT1, ⟨%d3, %f3, -, HO3⟩, HS0, HS1, HS2, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = Scalar.cmpi = _; exact hc0) | (guard_target = Scalar.cmpi = _; exact hc1) | (guard_target = ¬(Scalar.cmpi = _); exact hc2) | (guard_target = k0_cond4 _ _ = _; exact hc3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

end Cert.KernelIdeal.Attn

end
-- ==== Proof.RunB.lean ====
/- The body at a query block's first step where others follow. -/
module

public import proofs.«01_k».proof.Proof.Cfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- The step that starts a query block and does not end it: what it leaves in the three scratch buffers. -/
noncomputable def runB (c : Dev nD) (i : grid0.Coords) (arg4 : Memref sig .tc .vmem S1x8x512x384 .bf16) (harg4 : arg4.IsWhole) (arg5 : Memref sig .tc .vmem S512x384 .bf16) (harg5 : arg5.IsWhole) (arg6 : Memref sig .tc .vmem S256x512 .bf16) (harg6 : arg6.IsWhole) (arg7 : Memref sig .tc .vmem S1x8x512x256 .bf16) (harg7 : arg7.IsWhole)
    (x0 : S1x8x512x384.Idx → Elt F .bf16) (x1 : S512x384.Idx → Elt F .bf16) (x2 : S256x512.Idx → Elt F .bf16)
    (hc0 : c0 (F := F) i = 1#1) (hc1 : ¬ c1 (F := F) i = 1#1) (hc2 : c2 (F := F) i = 1#1) (hc3 : ¬ c3 (F := F) i = 1#1) :
    Σ' (out1 : Buf (Elt F) ((c : Thread nD τ).loc cc0_scratch0)) (out2 : Buf (Elt F) ((c : Thread nD τ).loc cc0_scratch1)), { out3 : Buf (Elt F) ((c : Thread nD τ).loc cc0_scratch2) //
      ∀ (d3 : S1x8x512x256.Idx → Elt F .bf16) (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ owns (c : Thread nD τ) arg7 fullShare d3
          ∗ (scM0.view.loc (c : Thread nD τ) ↦{fullShare} xa0)
          ∗ (scM1.view.loc (c : Thread nD τ) ↦{fullShare} xa1)
          ∗ (scM2.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ owns (c : Thread nD τ) arg7 fullShare d3
          ∗ (scM0.view.loc (c : Thread nD τ) ↦{fullShare} out1)
          ∗ (scM1.view.loc (c : Thread nD τ) ↦{fullShare} out2)
          ∗ (scM2.view.loc (c : Thread nD τ) ↦{fullShare} out3)) -∗ K ⟨⟩))
          ⊢ wp frame (wpE (defs₀ (F := F)) Variants.none c none) Set.univ (cc0_mla_prompt_attn i tbM0 (Memref.isWhole_whole _) tbM1 (Memref.isWhole_whole _) arg4 harg4 arg5 harg5 arg6 harg6 arg7 harg7 scM0 (Memref.isWhole_whole _) scM1 (Memref.isWhole_whole _) scM2 (Memref.isWhole_whole _)) K } :=
  ⟨_, _, _, fun (d3 : S1x8x512x256.Idx → Elt F .bf16) (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄) => by
    rw [cc0_mla_prompt_attn_eq_skeleton]; unfold cc0_mla_prompt_attn_skel
    iintro ⟨H0, H1, H2, HT0, HT1, HO3, HS0, HS1, HS2, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact hc3))
    sl_step
    iapply Hk
    isplitl [H0]; · iexact H0
    isplitl [H1]; · iexact H1
    isplitl [H2]; · iexact H2
    isplitl [HT0]; · iexact HT0
    isplitl [HT1]; · iexact HT1
    isplitl [HO3]; · iexact HO3
    isplitl [HS0]; · iexact HS0
    isplitl [HS1]; · iexact HS1
    iexact HS2⟩

end Cert.KernelIdeal.Attn

end
-- ==== Proof.RunC.lean ====
/- The body at a query block's last step where others came before. -/
module

public import proofs.«01_k».proof.Proof.Cfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- The step that ends a query block begun before: the pieces stored into the output's buffer and the scratch buffers. -/
noncomputable def runC (c : Dev nD) (i : grid0.Coords) (arg4 : Memref sig .tc .vmem S1x8x512x384 .bf16) (harg4 : arg4.IsWhole) (arg5 : Memref sig .tc .vmem S512x384 .bf16) (harg5 : arg5.IsWhole) (arg6 : Memref sig .tc .vmem S256x512 .bf16) (harg6 : arg6.IsWhole) (arg7 : Memref sig .tc .vmem S1x8x512x256 .bf16) (harg7 : arg7.IsWhole)
    (x0 : S1x8x512x384.Idx → Elt F .bf16) (x1 : S512x384.Idx → Elt F .bf16) (x2 : S256x512.Idx → Elt F .bf16)
    (xs0 : Buf (Elt F) ((c : Thread nD τ).loc cc0_scratch0)) (xs1 : Buf (Elt F) ((c : Thread nD τ).loc cc0_scratch1)) (xs2 : Buf (Elt F) ((c : Thread nD τ).loc cc0_scratch2))
    (hc0 : ¬ c0 (F := F) i = 1#1) (hc1 : c1 (F := F) i = 1#1) (hc2 : ¬ c2 (F := F) i = 1#1) (hc3 : c3 (F := F) i = 1#1) :
    Σ' (out0 : List (View.Piece (Elt F) S1x8x512x256 .bf16)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ (∃ d, owns (c : Thread nD τ) arg7 fullShare d)
          ∗ (scM0.view.loc (c : Thread nD τ) ↦{fullShare} xs0)
          ∗ (scM1.view.loc (c : Thread nD τ) ↦{fullShare} xs1)
          ∗ (scM2.view.loc (c : Thread nD τ) ↦{fullShare} xs2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ (∃ f, arg7.view.loc (c : Thread nD τ) ↦[arg7.view.set]{fullShare} arg7.view.writes (Elt F) f out0)
          ∗ (scM0.view.loc (c : Thread nD τ) ↦{fullShare} out1)
          ∗ (scM1.view.loc (c : Thread nD τ) ↦{fullShare} out2)
          ∗ (scM2.view.loc (c : Thread nD τ) ↦{fullShare} out3)) -∗ K ⟨⟩))
          ⊢ wp frame (wpE (defs₀ (F := F)) Variants.none c none) Set.univ (cc0_mla_prompt_attn i tbM0 (Memref.isWhole_whole _) tbM1 (Memref.isWhole_whole _) arg4 harg4 arg5 harg5 arg6 harg6 arg7 harg7 scM0 (Memref.isWhole_whole _) scM1 (Memref.isWhole_whole _) scM2 (Memref.isWhole_whole _)) K } :=
  ⟨_, _, _, _, fun (K : PUnit → sProp 𝕄) => by
    unfold owns
    rw [cc0_mla_prompt_attn_eq_skeleton]; unfold cc0_mla_prompt_attn_skel
    iintro ⟨H0, H1, H2, HT0, HT1, ⟨%d3, %f3, -, HO3⟩, HS0, HS1, HS2, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = ¬(Scalar.cmpi = _); exact hc0) | (guard_target = Scalar.cmpi = _; exact hc1) | (guard_target = ¬(Scalar.cmpi = _); exact hc2) | (guard_target = k0_cond4 _ _ = _; exact hc3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

end Cert.KernelIdeal.Attn

end
-- ==== Proof.RunD.lean ====
/- The body at a step between a query block's first and its last. -/
module

public import proofs.«01_k».proof.Proof.Cfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- A step that neither starts a query block nor ends it: what it leaves in the three scratch buffers. -/
noncomputable def runD (c : Dev nD) (i : grid0.Coords) (arg4 : Memref sig .tc .vmem S1x8x512x384 .bf16) (harg4 : arg4.IsWhole) (arg5 : Memref sig .tc .vmem S512x384 .bf16) (harg5 : arg5.IsWhole) (arg6 : Memref sig .tc .vmem S256x512 .bf16) (harg6 : arg6.IsWhole) (arg7 : Memref sig .tc .vmem S1x8x512x256 .bf16) (harg7 : arg7.IsWhole)
    (x0 : S1x8x512x384.Idx → Elt F .bf16) (x1 : S512x384.Idx → Elt F .bf16) (x2 : S256x512.Idx → Elt F .bf16)
    (xs0 : Buf (Elt F) ((c : Thread nD τ).loc cc0_scratch0)) (xs1 : Buf (Elt F) ((c : Thread nD τ).loc cc0_scratch1)) (xs2 : Buf (Elt F) ((c : Thread nD τ).loc cc0_scratch2))
    (hc0 : ¬ c0 (F := F) i = 1#1) (hc1 : ¬ c1 (F := F) i = 1#1) (hc2 : c2 (F := F) i = 1#1) (hc3 : ¬ c3 (F := F) i = 1#1) :
    Σ' (out1 : Buf (Elt F) ((c : Thread nD τ).loc cc0_scratch0)) (out2 : Buf (Elt F) ((c : Thread nD τ).loc cc0_scratch1)), { out3 : Buf (Elt F) ((c : Thread nD τ).loc cc0_scratch2) //
      ∀ (d3 : S1x8x512x256.Idx → Elt F .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ owns (c : Thread nD τ) arg7 fullShare d3
          ∗ (scM0.view.loc (c : Thread nD τ) ↦{fullShare} xs0)
          ∗ (scM1.view.loc (c : Thread nD τ) ↦{fullShare} xs1)
          ∗ (scM2.view.loc (c : Thread nD τ) ↦{fullShare} xs2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0.view.loc (c : Thread nD τ) ↦{fullShare.right} T0)
          ∗ (tbM1.view.loc (c : Thread nD τ) ↦{fullShare.right} T1)
          ∗ owns (c : Thread nD τ) arg7 fullShare d3
          ∗ (scM0.view.loc (c : Thread nD τ) ↦{fullShare} out1)
          ∗ (scM1.view.loc (c : Thread nD τ) ↦{fullShare} out2)
          ∗ (scM2.view.loc (c : Thread nD τ) ↦{fullShare} out3)) -∗ K ⟨⟩))
          ⊢ wp frame (wpE (defs₀ (F := F)) Variants.none c none) Set.univ (cc0_mla_prompt_attn i tbM0 (Memref.isWhole_whole _) tbM1 (Memref.isWhole_whole _) arg4 harg4 arg5 harg5 arg6 harg6 arg7 harg7 scM0 (Memref.isWhole_whole _) scM1 (Memref.isWhole_whole _) scM2 (Memref.isWhole_whole _)) K } :=
  ⟨_, _, _, fun (d3 : S1x8x512x256.Idx → Elt F .bf16) (K : PUnit → sProp 𝕄) => by
    rw [cc0_mla_prompt_attn_eq_skeleton]; unfold cc0_mla_prompt_attn_skel
    iintro ⟨H0, H1, H2, HT0, HT1, HO3, HS0, HS1, HS2, Hk⟩
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact hc3))
    sl_step
    iapply Hk
    isplitl [H0]; · iexact H0
    isplitl [H1]; · iexact H1
    isplitl [H2]; · iexact H2
    isplitl [HT0]; · iexact HT0
    isplitl [HT1]; · iexact HT1
    isplitl [HO3]; · iexact HO3
    isplitl [HS0]; · iexact HS0
    isplitl [HS1]; · iexact HS1
    iexact HS2⟩

end Cert.KernelIdeal.Attn

end
-- ==== Proof.Step.lean ====
/- The steps of the body as functions of the blocks and of the state carried from step to step. -/
module

public import proofs.«01_k».proof.Proof.RunA
public import proofs.«01_k».proof.Proof.RunB
public import proofs.«01_k».proof.Proof.RunC
public import proofs.«01_k».proof.Proof.RunD
public import Idealize.ShloMosaic.Lib.VecWindow

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.isDefEq.respectTransparency false
/-- The column numbers of the score block. -/
def iota1 : IVec S512x4096 32 := iota .tc S512x4096 32 [1] iota_S512x4096_d1_w32

/-- The state a query block is carried in: each query's running maximum, running denominator and running sum. -/
structure St (F : FTy → Type) where
  m : S1x4096.Idx → Elt F .f32
  l : S1x4096.Idx → Elt F .f32
  a : S256x4096.Idx → Elt F .f32

/-- The state a query block starts in. -/
def init : St F := ⟨k0_pay1, k0_pay2, k0_pay3⟩

/-- One step over a key block wholly before the queries. -/
def stepP (x0 : S1x8x512x384.Idx → Elt F .bf16) (x1 : S512x384.Idx → Elt F .bf16) (x2 : S256x512.Idx → Elt F .bf16) (s : St F) : St F :=
  ⟨k0_pay6 (k0_pay21 x1 x0 s.m), k0_pay24 x1 x0 s.m s.l, k0_pay25 x1 x0 s.m s.a x2⟩

/-- One step over a key block that is masked against the queries: `v1` the query block's number, `v3` the key block's. -/
def stepM (v1 v3 : Elt F .i32) (x0 : S1x8x512x384.Idx → Elt F .bf16) (x1 : S512x384.Idx → Elt F .bf16) (x2 : S256x512.Idx → Elt F .bf16) (s : St F) : St F :=
  ⟨k0_pay5 (k0_pay13 (k0_pay9 x1 x0) (k0_pay10 v3) iota1 (k0_pay11 v1) 512#32 0#1 s.m),
   k0_pay16 (k0_pay9 x1 x0) (k0_pay10 v3) iota1 (k0_pay11 v1) 512#32 0#1 s.m s.l,
   k0_pay4 (k0_pay17 (k0_pay9 x1 x0) (k0_pay10 v3) iota1 (k0_pay11 v1) 512#32 0#1 s.m s.a) (k0_pay18 x2)
     (k0_pay19 (k0_pay9 x1 x0) (k0_pay10 v3) iota1 (k0_pay11 v1) 512#32 0#1 s.m)⟩

/-- A head's columns of the running sum. -/
def headA (a : S256x4096.Idx → Elt F .f32) (h : Fin 8) : S256x512.Idx → Elt F .f32 := fun j =>
  a (fun | ⟨0, _⟩ => j 0 | ⟨1, _⟩ => ⟨h.val * 512 + (j 1).val, by have := h.isLt; have h' : (j 1).val < 512 := (j 1).isLt; change _ < 4096; omega⟩)

/-- A head's columns of the running denominator. -/
def headL (l : S1x4096.Idx → Elt F .f32) (h : Fin 8) : S1x512.Idx → Elt F .f32 := fun j =>
  l (fun | ⟨0, _⟩ => j 0 | ⟨1, _⟩ => ⟨h.val * 512 + (j 1).val, by have := h.isLt; have h' : (j 1).val < 512 := (j 1).isLt; change _ < 4096; omega⟩)

/-- What a query block's last step stores: each head's sums over its denominators, transposed. -/
def fin (s : St F) : S1x8x512x256.Idx → Elt F .bf16 := fun y =>
  k0_pay26 (headA s.a (y 1)) (headL s.l (y 1)) (fun | ⟨0, _⟩ => y 0 | ⟨1, _⟩ => (0 : Fin 1) | ⟨2, _⟩ => y 2 | ⟨3, _⟩ => y 3)

/-- A whole buffer, overwritten with one piece of its size, holds the piece. -/
theorem wr_whole {sig : RefSig} {κ : Kind} {Val : EltTy → Type} (b : Ref sig κ) (f : b.ty.Contents Val) {off : Fin b.ty.shape.rank → ℕ} (inb : ∀ a, off a + b.ty.shape.size a ≤ b.ty.shape.size a)
    (w : (Rect.unit off b.ty.shape.size inb).shape.Idx → Val b.ty.elt) (L : List (View.Piece Val b.ty.shape b.ty.elt)) :
    (View.whole b).writes Val f (⟨Rect.unit off b.ty.shape.size inb, w⟩ :: L) = w := by
  rw [← View.read_whole b (Val := Val) ((View.whole b).writes Val f _)]
  exact View.read_writes_full (View.whole b) f inb w L

/-- A load of a block's own size reads the block. -/
theorem rd_q (a : Memref sig .tc .vmem S1x8x512x384 .bf16) (x : S1x8x512x384.Idx → Elt F .bf16) (inb) : View.readAt (Elt F) a.view (Rect.unit (s := S1x8x512x384) ![0, 0, 0, 0] ![1, 8, 512, 384] inb).toLoadRect (a.view.rep x) = x :=
  View.readAt_rep_full a.view x inb
/-- The keys' block, read whole. -/
theorem rd_k (a : Memref sig .tc .vmem S512x384 .bf16) (x : S512x384.Idx → Elt F .bf16) (inb) : View.readAt (Elt F) a.view (Rect.unit (s := S512x384) ![0, 0] ![512, 384] inb).toLoadRect (a.view.rep x) = x :=
  View.readAt_rep_full a.view x inb
/-- The values' block, read whole. -/
theorem rd_v (a : Memref sig .tc .vmem S256x512 .bf16) (x : S256x512.Idx → Elt F .bf16) (inb) : View.readAt (Elt F) a.view (Rect.unit (s := S256x512) ![0, 0] ![256, 512] inb).toLoadRect (a.view.rep x) = x :=
  View.readAt_rep_full a.view x inb

/-- A load of a whole buffer's own size reads what it holds. -/
theorem rd_whole {sig : RefSig} {κ : Kind} {Val : EltTy → Type} (b : Ref sig κ) (f : b.ty.Contents Val) {off : Fin b.ty.shape.rank → ℕ} (inb : ∀ a, off a + b.ty.shape.size a ≤ b.ty.shape.size a) :
    (View.whole b).readAt Val (Rect.unit off b.ty.shape.size inb).toLoadRect f = f :=
  View.readAt_full (View.whole b) f inb
/-- The maxima's scratch, read whole. -/
theorem rd_m (s : S1x4096.Idx → Elt F .f32) (inb) : View.readAt (Elt F) (View.whole cc0_scratch0) (Rect.unit (s := S1x4096) ![0, 0] ![1, 4096] inb).toLoadRect s = s := rd_whole cc0_scratch0 s inb
/-- The sums' scratch, read whole. -/
theorem rd_l (s : S1x4096.Idx → Elt F .f32) (inb) : View.readAt (Elt F) (View.whole cc0_scratch1) (Rect.unit (s := S1x4096) ![0, 0] ![1, 4096] inb).toLoadRect s = s := rd_whole cc0_scratch1 s inb
/-- The accumulator's scratch, read whole. -/
theorem rd_a (s : S256x4096.Idx → Elt F .f32) (inb) : View.readAt (Elt F) (View.whole cc0_scratch2) (Rect.unit (s := S256x4096) ![0, 0] ![256, 4096] inb).toLoadRect s = s := rd_whole cc0_scratch2 s inb

/-- The same of what was just stored into it. -/
theorem rc_m (s : S1x4096.Idx → Elt F .f32) (inb inb') : View.readCov (s := S1x4096) (e := .f32) (View.whole cc0_scratch0) [⟨Rect.unit (s := S1x4096) ![0, 0] ![1, 4096] inb, s⟩] (Rect.unit (s := S1x4096) ![0, 0] ![1, 4096] inb').toLoadRect = s := View.readCov_full (View.whole cc0_scratch0) inb' inb s []
/-- The sums' scratch, read back after it was written whole. -/
theorem rc_l (s : S1x4096.Idx → Elt F .f32) (inb inb') : View.readCov (s := S1x4096) (e := .f32) (View.whole cc0_scratch1) [⟨Rect.unit (s := S1x4096) ![0, 0] ![1, 4096] inb, s⟩] (Rect.unit (s := S1x4096) ![0, 0] ![1, 4096] inb').toLoadRect = s := View.readCov_full (View.whole cc0_scratch1) inb' inb s []
/-- The accumulator's scratch, read back after it was written whole. -/
theorem rc_a (s : S256x4096.Idx → Elt F .f32) (inb inb') : View.readCov (s := S256x4096) (e := .f32) (View.whole cc0_scratch2) [⟨Rect.unit (s := S256x4096) ![0, 0] ![256, 4096] inb, s⟩] (Rect.unit (s := S256x4096) ![0, 0] ![256, 4096] inb').toLoadRect = s := View.readCov_full (View.whole cc0_scratch2) inb' inb s []

variable (c : Dev nD) (i : grid0.Coords) (a4 : Memref sig .tc .vmem S1x8x512x384 .bf16) (h4 : a4.IsWhole) (a5 : Memref sig .tc .vmem S512x384 .bf16) (h5 : a5.IsWhole) (a6 : Memref sig .tc .vmem S256x512 .bf16) (h6 : a6.IsWhole) (a7 : Memref sig .tc .vmem S1x8x512x256 .bf16) (h7 : a7.IsWhole)
    (x0 : S1x8x512x384.Idx → Elt F .bf16) (x1 : S512x384.Idx → Elt F .bf16) (x2 : S256x512.Idx → Elt F .bf16)

/-- The maxima that a first and masked point leaves. -/
theorem runA_m (hc0 hc1 hc2 hc3) : (runA c i a4 h4 a5 h5 a6 h6 a7 h7 x0 x1 x2 hc0 hc1 hc2 hc3).2.1 = (stepM (w0 i) (w1 i) x0 x1 x2 init).m := by
  unfold runA runA.sl.HS0_2
  dsimp only
  refine (wr_whole cc0_scratch0 _ _ _ _).trans ?_
  simp only [stepM, stepP, init, iota1, rd_q, rd_k, rd_v, rd_m, rd_l, rd_a, rc_m, rc_l, rc_a, runA.sl.r, runA.sl.r_1, runA.sl.r_2, runA.sl.r_3, runA.sl.r_4, runA.sl.r_5, runA.sl.r_6, runA.sl.r_7, runA.sl.r_8, runA.sl.v34, runA.sl.v84, runA.sl.v93, runA.sl.v101, runA.sl.HS0_1, runA.sl.HS1_1, runA.sl.HS2_1]
  first | done | with_reducible rfl

/-- The sums that a first and masked point leaves. -/
theorem runA_l (hc0 hc1 hc2 hc3) : (runA c i a4 h4 a5 h5 a6 h6 a7 h7 x0 x1 x2 hc0 hc1 hc2 hc3).2.2.1 = (stepM (w0 i) (w1 i) x0 x1 x2 init).l := by
  unfold runA runA.sl.HS1_2
  dsimp only
  refine (wr_whole cc0_scratch1 _ _ _ _).trans ?_
  simp only [stepM, stepP, init, iota1, rd_q, rd_k, rd_v, rd_m, rd_l, rd_a, rc_m, rc_l, rc_a, runA.sl.r, runA.sl.r_1, runA.sl.r_2, runA.sl.r_3, runA.sl.r_4, runA.sl.r_5, runA.sl.r_6, runA.sl.r_7, runA.sl.r_8, runA.sl.v34, runA.sl.v84, runA.sl.v93, runA.sl.v101, runA.sl.HS0_1, runA.sl.HS1_1, runA.sl.HS2_1]
  first | done | with_reducible rfl

/-- The accumulator that a first and masked point leaves. -/
theorem runA_a (hc0 hc1 hc2 hc3) : (runA c i a4 h4 a5 h5 a6 h6 a7 h7 x0 x1 x2 hc0 hc1 hc2 hc3).2.2.2.1 = (stepM (w0 i) (w1 i) x0 x1 x2 init).a := by
  unfold runA runA.sl.HS2_2
  dsimp only
  refine (wr_whole cc0_scratch2 _ _ _ _).trans ?_
  simp only [stepM, stepP, init, iota1, rd_q, rd_k, rd_v, rd_m, rd_l, rd_a, rc_m, rc_l, rc_a, runA.sl.r, runA.sl.r_1, runA.sl.r_2, runA.sl.r_3, runA.sl.r_4, runA.sl.r_5, runA.sl.r_6, runA.sl.r_7, runA.sl.r_8, runA.sl.v34, runA.sl.v84, runA.sl.v93, runA.sl.v101, runA.sl.HS0_1, runA.sl.HS1_1, runA.sl.HS2_1]
  first | done | with_reducible rfl

/-- The maxima that a first point without a mask leaves. -/
theorem runB_m (hc0 hc1 hc2 hc3) : (runB c i a4 h4 a5 h5 a6 h6 a7 h7 x0 x1 x2 hc0 hc1 hc2 hc3).1 = (stepP x0 x1 x2 init).m := by
  unfold runB runB.sl.HS0_2
  dsimp only
  refine (wr_whole cc0_scratch0 _ _ _ _).trans ?_
  simp only [stepM, stepP, init, iota1, rd_q, rd_k, rd_v, rd_m, rd_l, rd_a, rc_m, rc_l, rc_a, runB.sl.r_2, runB.sl.v30, runB.sl.v39, runB.sl.v47, runB.sl.HS0_1, runB.sl.HS1_1, runB.sl.HS2_1]
  first | done | with_reducible rfl

/-- The sums that a first point without a mask leaves. -/
theorem runB_l (hc0 hc1 hc2 hc3) : (runB c i a4 h4 a5 h5 a6 h6 a7 h7 x0 x1 x2 hc0 hc1 hc2 hc3).2.1 = (stepP x0 x1 x2 init).l := by
  unfold runB runB.sl.HS1_2
  dsimp only
  refine (wr_whole cc0_scratch1 _ _ _ _).trans ?_
  simp only [stepM, stepP, init, iota1, rd_q, rd_k, rd_v, rd_m, rd_l, rd_a, rc_m, rc_l, rc_a, runB.sl.r_2, runB.sl.v30, runB.sl.v39, runB.sl.v47, runB.sl.HS0_1, runB.sl.HS1_1, runB.sl.HS2_1]
  first | done | with_reducible rfl

/-- The accumulator that a first point without a mask leaves. -/
theorem runB_a (hc0 hc1 hc2 hc3) : (runB c i a4 h4 a5 h5 a6 h6 a7 h7 x0 x1 x2 hc0 hc1 hc2 hc3).2.2.1 = (stepP x0 x1 x2 init).a := by
  unfold runB runB.sl.HS2_2
  dsimp only
  refine (wr_whole cc0_scratch2 _ _ _ _).trans ?_
  simp only [stepM, stepP, init, iota1, rd_q, rd_k, rd_v, rd_m, rd_l, rd_a, rc_m, rc_l, rc_a, runB.sl.r_2, runB.sl.v30, runB.sl.v39, runB.sl.v47, runB.sl.HS0_1, runB.sl.HS1_1, runB.sl.HS2_1]
  first | done | with_reducible rfl

/-- The maxima that a later, masked point leaves. -/
theorem runC_m (s : St F) (hc0 hc1 hc2 hc3) : (runC c i a4 h4 a5 h5 a6 h6 a7 h7 x0 x1 x2 s.m s.l s.a hc0 hc1 hc2 hc3).2.1 = (stepM (w0 i) (w1 i) x0 x1 x2 s).m := by
  unfold runC runC.sl.HS0_1
  dsimp only
  refine (wr_whole cc0_scratch0 _ _ _ _).trans ?_
  simp only [stepM, stepP, init, iota1, rd_q, rd_k, rd_v, rd_m, rd_l, rd_a, rc_m, rc_l, rc_a, runC.sl.r, runC.sl.r_1, runC.sl.r_2, runC.sl.r_3, runC.sl.r_4, runC.sl.r_5, runC.sl.r_6, runC.sl.r_7, runC.sl.r_8, runC.sl.v34]
  first | done | with_reducible rfl

/-- The sums that a later, masked point leaves. -/
theorem runC_l (s : St F) (hc0 hc1 hc2 hc3) : (runC c i a4 h4 a5 h5 a6 h6 a7 h7 x0 x1 x2 s.m s.l s.a hc0 hc1 hc2 hc3).2.2.1 = (stepM (w0 i) (w1 i) x0 x1 x2 s).l := by
  unfold runC runC.sl.HS1_1
  dsimp only
  refine (wr_whole cc0_scratch1 _ _ _ _).trans ?_
  simp only [stepM, stepP, init, iota1, rd_q, rd_k, rd_v, rd_m, rd_l, rd_a, rc_m, rc_l, rc_a, runC.sl.r, runC.sl.r_1, runC.sl.r_2, runC.sl.r_3, runC.sl.r_4, runC.sl.r_5, runC.sl.r_6, runC.sl.r_7, runC.sl.r_8, runC.sl.v34]
  first | done | with_reducible rfl

/-- The accumulator that a later, masked point leaves. -/
theorem runC_a (s : St F) (hc0 hc1 hc2 hc3) : (runC c i a4 h4 a5 h5 a6 h6 a7 h7 x0 x1 x2 s.m s.l s.a hc0 hc1 hc2 hc3).2.2.2.1 = (stepM (w0 i) (w1 i) x0 x1 x2 s).a := by
  unfold runC runC.sl.HS2_1
  dsimp only
  refine (wr_whole cc0_scratch2 _ _ _ _).trans ?_
  simp only [stepM, stepP, init, iota1, rd_q, rd_k, rd_v, rd_m, rd_l, rd_a, rc_m, rc_l, rc_a, runC.sl.r, runC.sl.r_1, runC.sl.r_2, runC.sl.r_3, runC.sl.r_4, runC.sl.r_5, runC.sl.r_6, runC.sl.r_7, runC.sl.r_8, runC.sl.v34]
  first | done | with_reducible rfl

/-- The maxima that a later point without a mask leaves. -/
theorem runD_m (s : St F) (hc0 hc1 hc2 hc3) : (runD c i a4 h4 a5 h5 a6 h6 a7 h7 x0 x1 x2 s.m s.l s.a hc0 hc1 hc2 hc3).1 = (stepP x0 x1 x2 s).m := by
  unfold runD runD.sl.HS0_1
  dsimp only
  refine (wr_whole cc0_scratch0 _ _ _ _).trans ?_
  simp only [stepM, stepP, init, iota1, rd_q, rd_k, rd_v, rd_m, rd_l, rd_a, rc_m, rc_l, rc_a, runD.sl.r_2]
  first | done | with_reducible rfl

/-- The sums that a later point without a mask leaves. -/
theorem runD_l (s : St F) (hc0 hc1 hc2 hc3) : (runD c i a4 h4 a5 h5 a6 h6 a7 h7 x0 x1 x2 s.m s.l s.a hc0 hc1 hc2 hc3).2.1 = (stepP x0 x1 x2 s).l := by
  unfold runD runD.sl.HS1_1
  dsimp only
  refine (wr_whole cc0_scratch1 _ _ _ _).trans ?_
  simp only [stepM, stepP, init, iota1, rd_q, rd_k, rd_v, rd_m, rd_l, rd_a, rc_m, rc_l, rc_a, runD.sl.r_2]
  first | done | with_reducible rfl

/-- The accumulator that a later point without a mask leaves. -/
theorem runD_a (s : St F) (hc0 hc1 hc2 hc3) : (runD c i a4 h4 a5 h5 a6 h6 a7 h7 x0 x1 x2 s.m s.l s.a hc0 hc1 hc2 hc3).2.2.1 = (stepP x0 x1 x2 s).a := by
  unfold runD runD.sl.HS2_1
  dsimp only
  refine (wr_whole cc0_scratch2 _ _ _ _).trans ?_
  simp only [stepM, stepP, init, iota1, rd_q, rd_k, rd_v, rd_m, rd_l, rd_a, rc_m, rc_l, rc_a, runD.sl.r_2]

end Cert.KernelIdeal.Attn

end
-- ==== Proof.Out.lean ====
/- What a query block's last step stores. -/
module

public import proofs.«01_k».proof.Proof.Step
public import Idealize.ShloMosaic.Lib.VecWindow

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.isDefEq.respectTransparency false
/-- A load of one head's columns of the running sum. -/
theorem win_a (X : S256x4096.Idx → Elt F .f32) (h : Fin 8) (o : ℕ) (ho : o = h.val * 512) (inb) :
    View.readAt (s := S256x4096) (Elt F) scM2.view (Rect.unit (s := S256x4096) ![0, o] S256x512.size inb).toLoadRect X = headA X h := by
  subst ho
  funext j
  refine congrArg X (funext fun a => Fin.ext ?_)
  match a with
  | ⟨0, _⟩ => exact (Nat.zero_add _).trans (Nat.one_mul _)
  | ⟨1, _⟩ => exact congrArg (h.val * 512 + ·) (Nat.one_mul _)
/-- A load of one head's columns of the running denominator. -/
theorem win_l (X : S1x4096.Idx → Elt F .f32) (h : Fin 8) (o : ℕ) (ho : o = h.val * 512) (inb) :
    View.readAt (s := S1x4096) (Elt F) scM1.view (Rect.unit (s := S1x4096) ![0, o] S1x512.size inb).toLoadRect X = headL X h := by
  subst ho
  funext j
  refine congrArg X (funext fun a => Fin.ext ?_)
  match a with
  | ⟨0, _⟩ => exact (Nat.zero_add _).trans (Nat.one_mul _)
  | ⟨1, _⟩ => exact congrArg (h.val * 512 + ·) (Nat.one_mul _)

/-- A head's piece of the output's block is what `fin` says of that head. -/
theorem piece (s : St F) (h : Fin 8) (o : ℕ) (ho : o = h.val) (inb) (x : S1x1x512x256.Idx) :
    k0_pay26 (headA s.a h) (headL s.l h) x = fin s ((Rect.unit (s := S1x8x512x256) ![0, o, 0, 0] S1x1x512x256.size inb).emb x) := by
  subst ho
  have e : ((Rect.unit (s := S1x8x512x256) ![0, h.val, 0, 0] S1x1x512x256.size inb).emb x) 1 = h := Fin.ext (by
    have h1 : (x 1).val < 1 := (x 1).isLt
    show h.val + 1 * (x 1).val = h.val
    omega)
  unfold fin
  rw [e]
  refine congrArg _ (funext fun a => Fin.ext ?_)
  match a with
  | ⟨0, _⟩ => exact ((Nat.zero_add _).trans (Nat.one_mul _)).symm
  | ⟨1, _⟩ => have h1 : (x 1).val < 1 := (x 1).isLt
              show (x 1).val = 0
              omega
  | ⟨2, _⟩ => exact ((Nat.zero_add _).trans (Nat.one_mul _)).symm
  | ⟨3, _⟩ => exact ((Nat.zero_add _).trans (Nat.one_mul _)).symm

/-- The heads' pieces are written alike. -/
theorem pay_eq1 (A : Vec F S256x512 .f32) (L : Vec F S1x512 .f32) : k0_pay27 A L = k0_pay26 A L := rfl
/-- A head's stored part is the same function as the first head's. -/
theorem pay_eq2 (A : Vec F S256x512 .f32) (L : Vec F S1x512 .f32) : k0_pay28 A L = k0_pay26 A L := rfl
/-- A head's stored part is the same function as the first head's. -/
theorem pay_eq3 (A : Vec F S256x512 .f32) (L : Vec F S1x512 .f32) : k0_pay29 A L = k0_pay26 A L := rfl
/-- A head's stored part is the same function as the first head's. -/
theorem pay_eq4 (A : Vec F S256x512 .f32) (L : Vec F S1x512 .f32) : k0_pay30 A L = k0_pay26 A L := rfl
/-- A head's stored part is the same function as the first head's. -/
theorem pay_eq5 (A : Vec F S256x512 .f32) (L : Vec F S1x512 .f32) : k0_pay31 A L = k0_pay26 A L := rfl
/-- A head's stored part is the same function as the first head's. -/
theorem pay_eq7 (A : Vec F S256x512 .f32) (L : Vec F S1x512 .f32) : k0_pay8 A L = k0_pay26 A L := rfl
/-- A head's stored part is the same function as the first head's. -/
theorem pay_eq6 (A : Vec F S256x512 .f32) (L : Vec F S1x512 .f32) : k0_pay7 (k0_pay32 A L) = k0_pay26 A L := rfl

variable (c : Dev nD) (i : grid0.Coords) (a4 : Memref sig .tc .vmem S1x8x512x384 .bf16) (h4 : a4.IsWhole) (a5 : Memref sig .tc .vmem S512x384 .bf16) (h5 : a5.IsWhole) (a6 : Memref sig .tc .vmem S256x512 .bf16) (h6 : a6.IsWhole) (a7 : Memref sig .tc .vmem S1x8x512x256 .bf16) (h7 : a7.IsWhole)
    (x0 : S1x8x512x384.Idx → Elt F .bf16) (x1 : S512x384.Idx → Elt F .bf16) (x2 : S256x512.Idx → Elt F .bf16)

include c i a4 h4 a5 h5 a6 h6 a7 h7 x0 x1 x2

/-- What a first and last point has written to the accumulator's scratch. -/
theorem runA_wa (hc0 : c0 (F := F) i = 1#1) (hc1 : c1 (F := F) i = 1#1) (hc2 : ¬ c2 (F := F) i = 1#1) (hc3 : c3 (F := F) i = 1#1) : scM2.view.writes (Elt F) scM2.view.junk (runA.sl.HS2_2 i a4 a5 a6 x0 x1 x2) = (stepM (w0 i) (w1 i) x0 x1 x2 init).a := by
  unfold runA.sl.HS2_2
  dsimp only
  refine (wr_whole cc0_scratch2 _ _ _ _).trans ?_
  simp only [stepM, stepP, init, iota1, rd_q, rd_k, rd_v, rd_m, rd_l, rd_a, rc_m, rc_l, rc_a, runA.sl.r, runA.sl.r_1, runA.sl.r_2, runA.sl.r_3, runA.sl.r_4, runA.sl.r_5, runA.sl.r_6, runA.sl.r_7, runA.sl.r_8, runA.sl.v34, runA.sl.v84, runA.sl.v93, runA.sl.v101, runA.sl.HS0_1, runA.sl.HS1_1, runA.sl.HS2_1]
/-- What a first and last point has written to the sums's scratch. -/
theorem runA_wl (hc0 : c0 (F := F) i = 1#1) (hc1 : c1 (F := F) i = 1#1) (hc2 : ¬ c2 (F := F) i = 1#1) (hc3 : c3 (F := F) i = 1#1) : scM1.view.writes (Elt F) scM1.view.junk (runA.sl.HS1_2 i a4 a5 x0 x1) = (stepM (w0 i) (w1 i) x0 x1 x2 init).l := by
  unfold runA.sl.HS1_2
  dsimp only
  refine (wr_whole cc0_scratch1 _ _ _ _).trans ?_
  simp only [stepM, stepP, init, iota1, rd_q, rd_k, rd_v, rd_m, rd_l, rd_a, rc_m, rc_l, rc_a, runA.sl.r, runA.sl.r_1, runA.sl.r_2, runA.sl.r_3, runA.sl.r_4, runA.sl.r_5, runA.sl.r_6, runA.sl.r_7, runA.sl.r_8, runA.sl.v34, runA.sl.v84, runA.sl.v93, runA.sl.v101, runA.sl.HS0_1, runA.sl.HS1_1, runA.sl.HS2_1]
/-- Head 0's slice of the accumulator, as a first and last point reads it back. -/
theorem runA_a0 (hc0 : c0 (F := F) i = 1#1) (hc1 : c1 (F := F) i = 1#1) (hc2 : ¬ c2 (F := F) i = 1#1) (hc3 : c3 (F := F) i = 1#1) : runA.sl.v24 i a4 a5 a6 x0 x1 x2 = headA (stepM (w0 i) (w1 i) x0 x1 x2 init).a 0 := by
  unfold runA.sl.v24 View.readCov
  rw [runA_wa c i a4 h4 a5 h5 a6 h6 a7 h7 x0 x1 x2 hc0 hc1 hc2 hc3]
  exact win_a _ 0 0 rfl _
/-- Head 0's slice of the sums, as a first and last point reads it back. -/
theorem runA_l0 (hc0 : c0 (F := F) i = 1#1) (hc1 : c1 (F := F) i = 1#1) (hc2 : ¬ c2 (F := F) i = 1#1) (hc3 : c3 (F := F) i = 1#1) : runA.sl.v25 i a4 a5 x0 x1 = headL (stepM (w0 i) (w1 i) x0 x1 x2 init).l 0 := by
  unfold runA.sl.v25 View.readCov
  rw [runA_wl c i a4 h4 a5 h5 a6 h6 a7 h7 x0 x1 x2 hc0 hc1 hc2 hc3]
  exact win_l _ 0 0 rfl _
/-- Head 1's slice of the accumulator, as a first and last point reads it back. -/
theorem runA_a1 (hc0 : c0 (F := F) i = 1#1) (hc1 : c1 (F := F) i = 1#1) (hc2 : ¬ c2 (F := F) i = 1#1) (hc3 : c3 (F := F) i = 1#1) : runA.sl.v33 i a4 a5 a6 x0 x1 x2 = headA (stepM (w0 i) (w1 i) x0 x1 x2 init).a 1 := by
  unfold runA.sl.v33 View.readCov
  rw [runA_wa c i a4 h4 a5 h5 a6 h6 a7 h7 x0 x1 x2 hc0 hc1 hc2 hc3]
  exact win_a _ 1 512 rfl _
/-- Head 1's slice of the sums, as a first and last point reads it back. -/
theorem runA_l1 (hc0 : c0 (F := F) i = 1#1) (hc1 : c1 (F := F) i = 1#1) (hc2 : ¬ c2 (F := F) i = 1#1) (hc3 : c3 (F := F) i = 1#1) : runA.sl.v34_1 i a4 a5 x0 x1 = headL (stepM (w0 i) (w1 i) x0 x1 x2 init).l 1 := by
  unfold runA.sl.v34_1 View.readCov
  rw [runA_wl c i a4 h4 a5 h5 a6 h6 a7 h7 x0 x1 x2 hc0 hc1 hc2 hc3]
  exact win_l _ 1 512 rfl _
/-- Head 2's slice of the accumulator, as a first and last point reads it back. -/
theorem runA_a2 (hc0 : c0 (F := F) i = 1#1) (hc1 : c1 (F := F) i = 1#1) (hc2 : ¬ c2 (F := F) i = 1#1) (hc3 : c3 (F := F) i = 1#1) : runA.sl.v42 i a4 a5 a6 x0 x1 x2 = headA (stepM (w0 i) (w1 i) x0 x1 x2 init).a 2 := by
  unfold runA.sl.v42 View.readCov
  rw [runA_wa c i a4 h4 a5 h5 a6 h6 a7 h7 x0 x1 x2 hc0 hc1 hc2 hc3]
  exact win_a _ 2 1024 rfl _
/-- Head 2's slice of the sums, as a first and last point reads it back. -/
theorem runA_l2 (hc0 : c0 (F := F) i = 1#1) (hc1 : c1 (F := F) i = 1#1) (hc2 : ¬ c2 (F := F) i = 1#1) (hc3 : c3 (F := F) i = 1#1) : runA.sl.v43 i a4 a5 x0 x1 = headL (stepM (w0 i) (w1 i) x0 x1 x2 init).l 2 := by
  unfold runA.sl.v43 View.readCov
  rw [runA_wl c i a4 h4 a5 h5 a6 h6 a7 h7 x0 x1 x2 hc0 hc1 hc2 hc3]
  exact win_l _ 2 1024 rfl _
/-- Head 3's slice of the accumulator, as a first and last point reads it back. -/
theorem runA_a3 (hc0 : c0 (F := F) i = 1#1) (hc1 : c1 (F := F) i = 1#1) (hc2 : ¬ c2 (F := F) i = 1#1) (hc3 : c3 (F := F) i = 1#1) : runA.sl.v51 i a4 a5 a6 x0 x1 x2 = headA (stepM (w0 i) (w1 i) x0 x1 x2 init).a 3 := by
  unfold runA.sl.v51 View.readCov
  rw [runA_wa c i a4 h4 a5 h5 a6 h6 a7 h7 x0 x1 x2 hc0 hc1 hc2 hc3]
  exact win_a _ 3 1536 rfl _
/-- Head 3's slice of the sums, as a first and last point reads it back. -/
theorem runA_l3 (hc0 : c0 (F := F) i = 1#1) (hc1 : c1 (F := F) i = 1#1) (hc2 : ¬ c2 (F := F) i = 1#1) (hc3 : c3 (F := F) i = 1#1) : runA.sl.v52 i a4 a5 x0 x1 = headL (stepM (w0 i) (w1 i) x0 x1 x2 init).l 3 := by
  unfold runA.sl.v52 View.readCov
  rw [runA_wl c i a4 h4 a5 h5 a6 h6 a7 h7 x0 x1 x2 hc0 hc1 hc2 hc3]
  exact win_l _ 3 1536 rfl _
/-- Head 4's slice of the accumulator, as a first and last point reads it back. -/
theorem runA_a4 (hc0 : c0 (F := F) i = 1#1) (hc1 : c1 (F := F) i = 1#1) (hc2 : ¬ c2 (F := F) i = 1#1) (hc3 : c3 (F := F) i = 1#1) : runA.sl.v60 i a4 a5 a6 x0 x1 x2 = headA (stepM (w0 i) (w1 i) x0 x1 x2 init).a 4 := by
  unfold runA.sl.v60 View.readCov
  rw [runA_wa c i a4 h4 a5 h5 a6 h6 a7 h7 x0 x1 x2 hc0 hc1 hc2 hc3]
  exact win_a _ 4 2048 rfl _
/-- Head 4's slice of the sums, as a first and last point reads it back. -/
theorem runA_l4 (hc0 : c0 (F := F) i = 1#1) (hc1 : c1 (F := F) i = 1#1) (hc2 : ¬ c2 (F := F) i = 1#1) (hc3 : c3 (F := F) i = 1#1) : runA.sl.v61 i a4 a5 x0 x1 = headL (stepM (w0 i) (w1 i) x0 x1 x2 init).l 4 := by
  unfold runA.sl.v61 View.readCov
  rw [runA_wl c i a4 h4 a5 h5 a6 h6 a7 h7 x0 x1 x2 hc0 hc1 hc2 hc3]
  exact win_l _ 4 2048 rfl _
/-- Head 5's slice of the accumulator, as a first and last point reads it back. -/
theorem runA_a5 (hc0 : c0 (F := F) i = 1#1) (hc1 : c1 (F := F) i = 1#1) (hc2 : ¬ c2 (F := F) i = 1#1) (hc3 : c3 (F := F) i = 1#1) : runA.sl.v69 i a4 a5 a6 x0 x1 x2 = headA (stepM (w0 i) (w1 i) x0 x1 x2 init).a 5 := by
  unfold runA.sl.v69 View.readCov
  rw [runA_wa c i a4 h4 a5 h5 a6 h6 a7 h7 x0 x1 x2 hc0 hc1 hc2 hc3]
  exact win_a _ 5 2560 rfl _
/-- Head 5's slice of the sums, as a first and last point reads it back. -/
theorem runA_l5 (hc0 : c0 (F := F) i = 1#1) (hc1 : c1 (F := F) i = 1#1) (hc2 : ¬ c2 (F := F) i = 1#1) (hc3 : c3 (F := F) i = 1#1) : runA.sl.v70 i a4 a5 x0 x1 = headL (stepM (w0 i) (w1 i) x0 x1 x2 init).l 5 := by
  unfold runA.sl.v70 View.readCov
  rw [runA_wl c i a4 h4 a5 h5 a6 h6 a7 h7 x0 x1 x2 hc0 hc1 hc2 hc3]
  exact win_l _ 5 2560 rfl _
/-- Head 6's slice of the accumulator, as a first and last point reads it back. -/
theorem runA_a6 (hc0 : c0 (F := F) i = 1#1) (hc1 : c1 (F := F) i = 1#1) (hc2 : ¬ c2 (F := F) i = 1#1) (hc3 : c3 (F := F) i = 1#1) : runA.sl.v78 i a4 a5 a6 x0 x1 x2 = headA (stepM (w0 i) (w1 i) x0 x1 x2 init).a 6 := by
  unfold runA.sl.v78 View.readCov
  rw [runA_wa c i a4 h4 a5 h5 a6 h6 a7 h7 x0 x1 x2 hc0 hc1 hc2 hc3]
  exact win_a _ 6 3072 rfl _
/-- Head 6's slice of the sums, as a first and last point reads it back. -/
theorem runA_l6 (hc0 : c0 (F := F) i = 1#1) (hc1 : c1 (F := F) i = 1#1) (hc2 : ¬ c2 (F := F) i = 1#1) (hc3 : c3 (F := F) i = 1#1) : runA.sl.v79 i a4 a5 x0 x1 = headL (stepM (w0 i) (w1 i) x0 x1 x2 init).l 6 := by
  unfold runA.sl.v79 View.readCov
  rw [runA_wl c i a4 h4 a5 h5 a6 h6 a7 h7 x0 x1 x2 hc0 hc1 hc2 hc3]
  exact win_l _ 6 3072 rfl _
/-- Head 7's slice of the accumulator, as a first and last point reads it back. -/
theorem runA_a7 (hc0 : c0 (F := F) i = 1#1) (hc1 : c1 (F := F) i = 1#1) (hc2 : ¬ c2 (F := F) i = 1#1) (hc3 : c3 (F := F) i = 1#1) : runA.sl.v87 i a4 a5 a6 x0 x1 x2 = headA (stepM (w0 i) (w1 i) x0 x1 x2 init).a 7 := by
  unfold runA.sl.v87 View.readCov
  rw [runA_wa c i a4 h4 a5 h5 a6 h6 a7 h7 x0 x1 x2 hc0 hc1 hc2 hc3]
  exact win_a _ 7 3584 rfl _
/-- Head 7's slice of the sums, as a first and last point reads it back. -/
theorem runA_l7 (hc0 : c0 (F := F) i = 1#1) (hc1 : c1 (F := F) i = 1#1) (hc2 : ¬ c2 (F := F) i = 1#1) (hc3 : c3 (F := F) i = 1#1) : runA.sl.v88 i a4 a5 x0 x1 = headL (stepM (w0 i) (w1 i) x0 x1 x2 init).l 7 := by
  unfold runA.sl.v88 View.readCov
  rw [runA_wl c i a4 h4 a5 h5 a6 h6 a7 h7 x0 x1 x2 hc0 hc1 hc2 hc3]
  exact win_l _ 7 3584 rfl _

/-- What the pieces stored by a query block's last step leave in the output's block. -/
theorem runA_out (hc0 : c0 (F := F) i = 1#1) (hc1 : c1 (F := F) i = 1#1) (hc2 : ¬ c2 (F := F) i = 1#1) (hc3 : c3 (F := F) i = 1#1) (f) : a7.view.read (Elt F) (a7.view.writes (Elt F) f (runA.sl.HO3_8 i a4 a5 a6 x0 x1 x2)) = fin (stepM (w0 i) (w1 i) x0 x1 x2 init) := by
  funext y
  refine View.read_writes_apply_of_pieces a7.view f _ _ ?_ y (View.cover_of_tiledL (s := S1x8x512x256) _ S1x1x512x256.size (by sl_kernel_rfl) y)
  unfold runA.sl.HO3_8
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩ <;> dsimp only
  · rw [pay_eq7, runA_a7 c i a4 h4 a5 h5 a6 h6 a7 h7 x0 x1 x2 hc0 hc1 hc2 hc3, runA_l7 c i a4 h4 a5 h5 a6 h6 a7 h7 x0 x1 x2 hc0 hc1 hc2 hc3]; exact piece _ 7 7 rfl _ x
  · rw [runA.sl.r_9, pay_eq6, runA_a6 c i a4 h4 a5 h5 a6 h6 a7 h7 x0 x1 x2 hc0 hc1 hc2 hc3, runA_l6 c i a4 h4 a5 h5 a6 h6 a7 h7 x0 x1 x2 hc0 hc1 hc2 hc3]; exact piece _ 6 6 rfl _ x
  · rw [pay_eq5, runA_a5 c i a4 h4 a5 h5 a6 h6 a7 h7 x0 x1 x2 hc0 hc1 hc2 hc3, runA_l5 c i a4 h4 a5 h5 a6 h6 a7 h7 x0 x1 x2 hc0 hc1 hc2 hc3]; exact piece _ 5 5 rfl _ x
  · rw [pay_eq4, runA_a4 c i a4 h4 a5 h5 a6 h6 a7 h7 x0 x1 x2 hc0 hc1 hc2 hc3, runA_l4 c i a4 h4 a5 h5 a6 h6 a7 h7 x0 x1 x2 hc0 hc1 hc2 hc3]; exact piece _ 4 4 rfl _ x
  · rw [pay_eq3, runA_a3 c i a4 h4 a5 h5 a6 h6 a7 h7 x0 x1 x2 hc0 hc1 hc2 hc3, runA_l3 c i a4 h4 a5 h5 a6 h6 a7 h7 x0 x1 x2 hc0 hc1 hc2 hc3]; exact piece _ 3 3 rfl _ x
  · rw [pay_eq2, runA_a2 c i a4 h4 a5 h5 a6 h6 a7 h7 x0 x1 x2 hc0 hc1 hc2 hc3, runA_l2 c i a4 h4 a5 h5 a6 h6 a7 h7 x0 x1 x2 hc0 hc1 hc2 hc3]; exact piece _ 2 2 rfl _ x
  · rw [pay_eq1, runA_a1 c i a4 h4 a5 h5 a6 h6 a7 h7 x0 x1 x2 hc0 hc1 hc2 hc3, runA_l1 c i a4 h4 a5 h5 a6 h6 a7 h7 x0 x1 x2 hc0 hc1 hc2 hc3]; exact piece _ 1 1 rfl _ x
  · rw [runA_a0 c i a4 h4 a5 h5 a6 h6 a7 h7 x0 x1 x2 hc0 hc1 hc2 hc3, runA_l0 c i a4 h4 a5 h5 a6 h6 a7 h7 x0 x1 x2 hc0 hc1 hc2 hc3]; exact piece _ 0 0 rfl _ x

/-- What a last point has written to the accumulator's scratch. -/
theorem runC_wa (s : St F) (hc0 : ¬ c0 (F := F) i = 1#1) (hc1 : c1 (F := F) i = 1#1) (hc2 : ¬ c2 (F := F) i = 1#1) (hc3 : c3 (F := F) i = 1#1) : scM2.view.writes (Elt F) scM2.view.junk (runC.sl.HS2_1 c i a4 a5 a6 x0 x1 x2 s.m s.a) = (stepM (w0 i) (w1 i) x0 x1 x2 s).a := by
  unfold runC.sl.HS2_1
  dsimp only
  refine (wr_whole cc0_scratch2 _ _ _ _).trans ?_
  simp only [stepM, stepP, init, iota1, rd_q, rd_k, rd_v, rd_m, rd_l, rd_a, rc_m, rc_l, rc_a, runC.sl.r, runC.sl.r_1, runC.sl.r_2, runC.sl.r_3, runC.sl.r_4, runC.sl.r_5, runC.sl.r_6, runC.sl.r_7, runC.sl.r_8, runC.sl.v34]
/-- What a last point has written to the sums's scratch. -/
theorem runC_wl (s : St F) (hc0 : ¬ c0 (F := F) i = 1#1) (hc1 : c1 (F := F) i = 1#1) (hc2 : ¬ c2 (F := F) i = 1#1) (hc3 : c3 (F := F) i = 1#1) : scM1.view.writes (Elt F) scM1.view.junk (runC.sl.HS1_1 c i a4 a5 x0 x1 s.m s.l) = (stepM (w0 i) (w1 i) x0 x1 x2 s).l := by
  unfold runC.sl.HS1_1
  dsimp only
  refine (wr_whole cc0_scratch1 _ _ _ _).trans ?_
  simp only [stepM, stepP, init, iota1, rd_q, rd_k, rd_v, rd_m, rd_l, rd_a, rc_m, rc_l, rc_a, runC.sl.r, runC.sl.r_1, runC.sl.r_2, runC.sl.r_3, runC.sl.r_4, runC.sl.r_5, runC.sl.r_6, runC.sl.r_7, runC.sl.r_8, runC.sl.v34]
/-- Head 0's slice of the accumulator, as a last point reads it back. -/
theorem runC_a0 (s : St F) (hc0 : ¬ c0 (F := F) i = 1#1) (hc1 : c1 (F := F) i = 1#1) (hc2 : ¬ c2 (F := F) i = 1#1) (hc3 : c3 (F := F) i = 1#1) : runC.sl.v24 c i a4 a5 a6 x0 x1 x2 s.m s.a = headA (stepM (w0 i) (w1 i) x0 x1 x2 s).a 0 := by
  unfold runC.sl.v24 View.readCov
  rw [runC_wa c i a4 h4 a5 h5 a6 h6 a7 h7 x0 x1 x2 s hc0 hc1 hc2 hc3]
  exact win_a _ 0 0 rfl _
/-- Head 0's slice of the sums, as a last point reads it back. -/
theorem runC_l0 (s : St F) (hc0 : ¬ c0 (F := F) i = 1#1) (hc1 : c1 (F := F) i = 1#1) (hc2 : ¬ c2 (F := F) i = 1#1) (hc3 : c3 (F := F) i = 1#1) : runC.sl.v25 c i a4 a5 x0 x1 s.m s.l = headL (stepM (w0 i) (w1 i) x0 x1 x2 s).l 0 := by
  unfold runC.sl.v25 View.readCov
  rw [runC_wl c i a4 h4 a5 h5 a6 h6 a7 h7 x0 x1 x2 s hc0 hc1 hc2 hc3]
  exact win_l _ 0 0 rfl _
/-- Head 1's slice of the accumulator, as a last point reads it back. -/
theorem runC_a1 (s : St F) (hc0 : ¬ c0 (F := F) i = 1#1) (hc1 : c1 (F := F) i = 1#1) (hc2 : ¬ c2 (F := F) i = 1#1) (hc3 : c3 (F := F) i = 1#1) : runC.sl.v33 c i a4 a5 a6 x0 x1 x2 s.m s.a = headA (stepM (w0 i) (w1 i) x0 x1 x2 s).a 1 := by
  unfold runC.sl.v33 View.readCov
  rw [runC_wa c i a4 h4 a5 h5 a6 h6 a7 h7 x0 x1 x2 s hc0 hc1 hc2 hc3]
  exact win_a _ 1 512 rfl _
/-- Head 1's slice of the sums, as a last point reads it back. -/
theorem runC_l1 (s : St F) (hc0 : ¬ c0 (F := F) i = 1#1) (hc1 : c1 (F := F) i = 1#1) (hc2 : ¬ c2 (F := F) i = 1#1) (hc3 : c3 (F := F) i = 1#1) : runC.sl.v34_1 c i a4 a5 x0 x1 s.m s.l = headL (stepM (w0 i) (w1 i) x0 x1 x2 s).l 1 := by
  unfold runC.sl.v34_1 View.readCov
  rw [runC_wl c i a4 h4 a5 h5 a6 h6 a7 h7 x0 x1 x2 s hc0 hc1 hc2 hc3]
  exact win_l _ 1 512 rfl _
/-- Head 2's slice of the accumulator, as a last point reads it back. -/
theorem runC_a2 (s : St F) (hc0 : ¬ c0 (F := F) i = 1#1) (hc1 : c1 (F := F) i = 1#1) (hc2 : ¬ c2 (F := F) i = 1#1) (hc3 : c3 (F := F) i = 1#1) : runC.sl.v42 c i a4 a5 a6 x0 x1 x2 s.m s.a = headA (stepM (w0 i) (w1 i) x0 x1 x2 s).a 2 := by
  unfold runC.sl.v42 View.readCov
  rw [runC_wa c i a4 h4 a5 h5 a6 h6 a7 h7 x0 x1 x2 s hc0 hc1 hc2 hc3]
  exact win_a _ 2 1024 rfl _
/-- Head 2's slice of the sums, as a last point reads it back. -/
theorem runC_l2 (s : St F) (hc0 : ¬ c0 (F := F) i = 1#1) (hc1 : c1 (F := F) i = 1#1) (hc2 : ¬ c2 (F := F) i = 1#1) (hc3 : c3 (F := F) i = 1#1) : runC.sl.v43 c i a4 a5 x0 x1 s.m s.l = headL (stepM (w0 i) (w1 i) x0 x1 x2 s).l 2 := by
  unfold runC.sl.v43 View.readCov
  rw [runC_wl c i a4 h4 a5 h5 a6 h6 a7 h7 x0 x1 x2 s hc0 hc1 hc2 hc3]
  exact win_l _ 2 1024 rfl _
/-- Head 3's slice of the accumulator, as a last point reads it back. -/
theorem runC_a3 (s : St F) (hc0 : ¬ c0 (F := F) i = 1#1) (hc1 : c1 (F := F) i = 1#1) (hc2 : ¬ c2 (F := F) i = 1#1) (hc3 : c3 (F := F) i = 1#1) : runC.sl.v51 c i a4 a5 a6 x0 x1 x2 s.m s.a = headA (stepM (w0 i) (w1 i) x0 x1 x2 s).a 3 := by
  unfold runC.sl.v51 View.readCov
  rw [runC_wa c i a4 h4 a5 h5 a6 h6 a7 h7 x0 x1 x2 s hc0 hc1 hc2 hc3]
  exact win_a _ 3 1536 rfl _
/-- Head 3's slice of the sums, as a last point reads it back. -/
theorem runC_l3 (s : St F) (hc0 : ¬ c0 (F := F) i = 1#1) (hc1 : c1 (F := F) i = 1#1) (hc2 : ¬ c2 (F := F) i = 1#1) (hc3 : c3 (F := F) i = 1#1) : runC.sl.v52 c i a4 a5 x0 x1 s.m s.l = headL (stepM (w0 i) (w1 i) x0 x1 x2 s).l 3 := by
  unfold runC.sl.v52 View.readCov
  rw [runC_wl c i a4 h4 a5 h5 a6 h6 a7 h7 x0 x1 x2 s hc0 hc1 hc2 hc3]
  exact win_l _ 3 1536 rfl _
/-- Head 4's slice of the accumulator, as a last point reads it back. -/
theorem runC_a4 (s : St F) (hc0 : ¬ c0 (F := F) i = 1#1) (hc1 : c1 (F := F) i = 1#1) (hc2 : ¬ c2 (F := F) i = 1#1) (hc3 : c3 (F := F) i = 1#1) : runC.sl.v60 c i a4 a5 a6 x0 x1 x2 s.m s.a = headA (stepM (w0 i) (w1 i) x0 x1 x2 s).a 4 := by
  unfold runC.sl.v60 View.readCov
  rw [runC_wa c i a4 h4 a5 h5 a6 h6 a7 h7 x0 x1 x2 s hc0 hc1 hc2 hc3]
  exact win_a _ 4 2048 rfl _
/-- Head 4's slice of the sums, as a last point reads it back. -/
theorem runC_l4 (s : St F) (hc0 : ¬ c0 (F := F) i = 1#1) (hc1 : c1 (F := F) i = 1#1) (hc2 : ¬ c2 (F := F) i = 1#1) (hc3 : c3 (F := F) i = 1#1) : runC.sl.v61 c i a4 a5 x0 x1 s.m s.l = headL (stepM (w0 i) (w1 i) x0 x1 x2 s).l 4 := by
  unfold runC.sl.v61 View.readCov
  rw [runC_wl c i a4 h4 a5 h5 a6 h6 a7 h7 x0 x1 x2 s hc0 hc1 hc2 hc3]
  exact win_l _ 4 2048 rfl _
/-- Head 5's slice of the accumulator, as a last point reads it back. -/
theorem runC_a5 (s : St F) (hc0 : ¬ c0 (F := F) i = 1#1) (hc1 : c1 (F := F) i = 1#1) (hc2 : ¬ c2 (F := F) i = 1#1) (hc3 : c3 (F := F) i = 1#1) : runC.sl.v69 c i a4 a5 a6 x0 x1 x2 s.m s.a = headA (stepM (w0 i) (w1 i) x0 x1 x2 s).a 5 := by
  unfold runC.sl.v69 View.readCov
  rw [runC_wa c i a4 h4 a5 h5 a6 h6 a7 h7 x0 x1 x2 s hc0 hc1 hc2 hc3]
  exact win_a _ 5 2560 rfl _
/-- Head 5's slice of the sums, as a last point reads it back. -/
theorem runC_l5 (s : St F) (hc0 : ¬ c0 (F := F) i = 1#1) (hc1 : c1 (F := F) i = 1#1) (hc2 : ¬ c2 (F := F) i = 1#1) (hc3 : c3 (F := F) i = 1#1) : runC.sl.v70 c i a4 a5 x0 x1 s.m s.l = headL (stepM (w0 i) (w1 i) x0 x1 x2 s).l 5 := by
  unfold runC.sl.v70 View.readCov
  rw [runC_wl c i a4 h4 a5 h5 a6 h6 a7 h7 x0 x1 x2 s hc0 hc1 hc2 hc3]
  exact win_l _ 5 2560 rfl _
/-- Head 6's slice of the accumulator, as a last point reads it back. -/
theorem runC_a6 (s : St F) (hc0 : ¬ c0 (F := F) i = 1#1) (hc1 : c1 (F := F) i = 1#1) (hc2 : ¬ c2 (F := F) i = 1#1) (hc3 : c3 (F := F) i = 1#1) : runC.sl.v78 c i a4 a5 a6 x0 x1 x2 s.m s.a = headA (stepM (w0 i) (w1 i) x0 x1 x2 s).a 6 := by
  unfold runC.sl.v78 View.readCov
  rw [runC_wa c i a4 h4 a5 h5 a6 h6 a7 h7 x0 x1 x2 s hc0 hc1 hc2 hc3]
  exact win_a _ 6 3072 rfl _
/-- Head 6's slice of the sums, as a last point reads it back. -/
theorem runC_l6 (s : St F) (hc0 : ¬ c0 (F := F) i = 1#1) (hc1 : c1 (F := F) i = 1#1) (hc2 : ¬ c2 (F := F) i = 1#1) (hc3 : c3 (F := F) i = 1#1) : runC.sl.v79 c i a4 a5 x0 x1 s.m s.l = headL (stepM (w0 i) (w1 i) x0 x1 x2 s).l 6 := by
  unfold runC.sl.v79 View.readCov
  rw [runC_wl c i a4 h4 a5 h5 a6 h6 a7 h7 x0 x1 x2 s hc0 hc1 hc2 hc3]
  exact win_l _ 6 3072 rfl _
/-- Head 7's slice of the accumulator, as a last point reads it back. -/
theorem runC_a7 (s : St F) (hc0 : ¬ c0 (F := F) i = 1#1) (hc1 : c1 (F := F) i = 1#1) (hc2 : ¬ c2 (F := F) i = 1#1) (hc3 : c3 (F := F) i = 1#1) : runC.sl.v87 c i a4 a5 a6 x0 x1 x2 s.m s.a = headA (stepM (w0 i) (w1 i) x0 x1 x2 s).a 7 := by
  unfold runC.sl.v87 View.readCov
  rw [runC_wa c i a4 h4 a5 h5 a6 h6 a7 h7 x0 x1 x2 s hc0 hc1 hc2 hc3]
  exact win_a _ 7 3584 rfl _
/-- Head 7's slice of the sums, as a last point reads it back. -/
theorem runC_l7 (s : St F) (hc0 : ¬ c0 (F := F) i = 1#1) (hc1 : c1 (F := F) i = 1#1) (hc2 : ¬ c2 (F := F) i = 1#1) (hc3 : c3 (F := F) i = 1#1) : runC.sl.v88 c i a4 a5 x0 x1 s.m s.l = headL (stepM (w0 i) (w1 i) x0 x1 x2 s).l 7 := by
  unfold runC.sl.v88 View.readCov
  rw [runC_wl c i a4 h4 a5 h5 a6 h6 a7 h7 x0 x1 x2 s hc0 hc1 hc2 hc3]
  exact win_l _ 7 3584 rfl _

/-- What the pieces stored by a query block's last step leave in the output's block. -/
theorem runC_out (s : St F) (hc0 : ¬ c0 (F := F) i = 1#1) (hc1 : c1 (F := F) i = 1#1) (hc2 : ¬ c2 (F := F) i = 1#1) (hc3 : c3 (F := F) i = 1#1) (f) : a7.view.read (Elt F) (a7.view.writes (Elt F) f (runC.sl.HO3_8 c i a4 a5 a6 x0 x1 x2 s.m s.l s.a)) = fin (stepM (w0 i) (w1 i) x0 x1 x2 s) := by
  funext y
  refine View.read_writes_apply_of_pieces a7.view f _ _ ?_ y (View.cover_of_tiledL (s := S1x8x512x256) _ S1x1x512x256.size (by sl_kernel_rfl) y)
  unfold runC.sl.HO3_8
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩ <;> dsimp only
  · rw [pay_eq7, runC_a7 c i a4 h4 a5 h5 a6 h6 a7 h7 x0 x1 x2 s hc0 hc1 hc2 hc3, runC_l7 c i a4 h4 a5 h5 a6 h6 a7 h7 x0 x1 x2 s hc0 hc1 hc2 hc3]; exact piece _ 7 7 rfl _ x
  · rw [runC.sl.r_9, pay_eq6, runC_a6 c i a4 h4 a5 h5 a6 h6 a7 h7 x0 x1 x2 s hc0 hc1 hc2 hc3, runC_l6 c i a4 h4 a5 h5 a6 h6 a7 h7 x0 x1 x2 s hc0 hc1 hc2 hc3]; exact piece _ 6 6 rfl _ x
  · rw [pay_eq5, runC_a5 c i a4 h4 a5 h5 a6 h6 a7 h7 x0 x1 x2 s hc0 hc1 hc2 hc3, runC_l5 c i a4 h4 a5 h5 a6 h6 a7 h7 x0 x1 x2 s hc0 hc1 hc2 hc3]; exact piece _ 5 5 rfl _ x
  · rw [pay_eq4, runC_a4 c i a4 h4 a5 h5 a6 h6 a7 h7 x0 x1 x2 s hc0 hc1 hc2 hc3, runC_l4 c i a4 h4 a5 h5 a6 h6 a7 h7 x0 x1 x2 s hc0 hc1 hc2 hc3]; exact piece _ 4 4 rfl _ x
  · rw [pay_eq3, runC_a3 c i a4 h4 a5 h5 a6 h6 a7 h7 x0 x1 x2 s hc0 hc1 hc2 hc3, runC_l3 c i a4 h4 a5 h5 a6 h6 a7 h7 x0 x1 x2 s hc0 hc1 hc2 hc3]; exact piece _ 3 3 rfl _ x
  · rw [pay_eq2, runC_a2 c i a4 h4 a5 h5 a6 h6 a7 h7 x0 x1 x2 s hc0 hc1 hc2 hc3, runC_l2 c i a4 h4 a5 h5 a6 h6 a7 h7 x0 x1 x2 s hc0 hc1 hc2 hc3]; exact piece _ 2 2 rfl _ x
  · rw [pay_eq1, runC_a1 c i a4 h4 a5 h5 a6 h6 a7 h7 x0 x1 x2 s hc0 hc1 hc2 hc3, runC_l1 c i a4 h4 a5 h5 a6 h6 a7 h7 x0 x1 x2 s hc0 hc1 hc2 hc3]; exact piece _ 1 1 rfl _ x
  · rw [runC_a0 c i a4 h4 a5 h5 a6 h6 a7 h7 x0 x1 x2 s hc0 hc1 hc2 hc3, runC_l0 c i a4 h4 a5 h5 a6 h6 a7 h7 x0 x1 x2 s hc0 hc1 hc2 hc3]; exact piece _ 0 0 rfl _ x

end Cert.KernelIdeal.Attn

end
-- ==== Proof.Body.lean ====
/- The pipeline's state from point to point, and the body's part in it. -/
module

public import proofs.«01_k».proof.Proof.Out

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Each window's current staging buffer at a point, and that it is whole. -/
abbrev ms0_0 (t : Fin (cfgA (F := F)).N) : Memref sig .tc .vmem S1x8x512x384 .bf16 := spec0_0.stage ((cfgA (F := F)).slots t (0 : Fin 4))
abbrev hs0_0 (t : Fin (cfgA (F := F)).N) : (ms0_0 t).IsWhole := hstage0_0 (((cfgA (F := F)).slots t (0 : Fin 4)).cast nbuf0_0)
abbrev ms0_1 (t : Fin (cfgA (F := F)).N) : Memref sig .tc .vmem S512x384 .bf16 := spec0_1.stage ((cfgA (F := F)).slots t (1 : Fin 4))
abbrev hs0_1 (t : Fin (cfgA (F := F)).N) : (ms0_1 t).IsWhole := hstage0_1 (((cfgA (F := F)).slots t (1 : Fin 4)).cast nbuf0_1)
abbrev ms0_2 (t : Fin (cfgA (F := F)).N) : Memref sig .tc .vmem S256x512 .bf16 := spec0_2.stage ((cfgA (F := F)).slots t (2 : Fin 4))
abbrev hs0_2 (t : Fin (cfgA (F := F)).N) : (ms0_2 t).IsWhole := hstage0_2 (((cfgA (F := F)).slots t (2 : Fin 4)).cast nbuf0_2)
abbrev ms0_3 (t : Fin (cfgA (F := F)).N) : Memref sig .tc .vmem S1x8x512x256 .bf16 := spec0_3.stage ((cfgA (F := F)).slots t (3 : Fin 4))
abbrev hs0_3 (t : Fin (cfgA (F := F)).N) : (ms0_3 t).IsWhole := hstage0_3 (((cfgA (F := F)).slots t (3 : Fin 4)).cast nbuf0_3)

/-- A device's buffers when the pipeline is entered: what the host lines before it leave. -/
def V0 (c : Dev nD) : Valuation τ sig (Elt F) := StableHlo.after (List.flatten [hostOps0]) (fun b => m (c, b))

/-- A window's block at a point, of what its array holds when the pipeline is entered. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V0 m c (Proc.devRef .tc (Pipeline.arrRef (cfgA (F := F)).spec w)))

/-- The queries', keys' and values' blocks at a point. -/
abbrev bq (c : Dev nD) (t : Fin (cfgA (F := F)).N) : S1x8x512x384.Idx → Elt F .bf16 := iblk m c (0 : Fin 4) t
abbrev bk (c : Dev nD) (t : Fin (cfgA (F := F)).N) : S512x384.Idx → Elt F .bf16 := iblk m c (1 : Fin 4) t
abbrev bv (c : Dev nD) (t : Fin (cfgA (F := F)).N) : S256x512.Idx → Elt F .bf16 := iblk m c (2 : Fin 4) t

/-- The state a point's step starts from: the starting state where a query block begins. -/
def start (t : Fin (cfgA (F := F)).N) (s : St F) : St F := if c0 (F := F) (crd t) = 1#1 then init else s

/-- A point's step. -/
def step (c : Dev nD) (t : Fin (cfgA (F := F)).N) (s : St F) : St F :=
  if c1 (F := F) (crd t) = 1#1 then stepM (w0 (crd t)) (w1 (crd t)) (bq m c t) (bk m c t) (bv m c t) (start t s)
  else stepP (bq m c t) (bk m c t) (bv m c t) (start t s)

/-- The state before each point. -/
def st (c : Dev nD) : ℕ → St F
  | 0 => init
  | n + 1 => if h : n < (cfgA (F := F)).N then step m c ⟨n, h⟩ (st c n) else st c n

/-- The scratches after a point: that point's step from those before it. -/
theorem st_succ (c : Dev nD) (t : Fin (cfgA (F := F)).N) : st m c (t.val + 1) = step m c t (st m c t.val) := dif_pos t.isLt

/-- The step at a query block's first and masked point. -/
theorem step_A (c : Dev nD) (t : Fin (cfgA (F := F)).N) (s : St F) (h0 : c0 (F := F) (crd t) = 1#1) (h1 : c1 (F := F) (crd t) = 1#1) :
    step m c t s = stepM (w0 (crd t)) (w1 (crd t)) (bq m c t) (bk m c t) (bv m c t) init := by unfold step start; rw [if_pos h0, if_pos h1]
/-- The step at a query block's first point, without a mask. -/
theorem step_B (c : Dev nD) (t : Fin (cfgA (F := F)).N) (s : St F) (h0 : c0 (F := F) (crd t) = 1#1) (h1 : ¬ c1 (F := F) (crd t) = 1#1) :
    step m c t s = stepP (bq m c t) (bk m c t) (bv m c t) init := by unfold step start; rw [if_pos h0, if_neg h1]
/-- The step at a later, masked point. -/
theorem step_C (c : Dev nD) (t : Fin (cfgA (F := F)).N) (s : St F) (h0 : ¬ c0 (F := F) (crd t) = 1#1) (h1 : c1 (F := F) (crd t) = 1#1) :
    step m c t s = stepM (w0 (crd t)) (w1 (crd t)) (bq m c t) (bk m c t) (bv m c t) s := by unfold step start; rw [if_neg h0, if_pos h1]
/-- The step at a later point, without a mask. -/
theorem step_D (c : Dev nD) (t : Fin (cfgA (F := F)).N) (s : St F) (h0 : ¬ c0 (F := F) (crd t) = 1#1) (h1 : ¬ c1 (F := F) (crd t) = 1#1) :
    step m c t s = stepP (bq m c t) (bk m c t) (bv m c t) s := by unfold step start; rw [if_neg h0, if_neg h1]

/-- What is held before a point beside the windows: the scratch buffers at the state, the body's halves of the tables. -/
def Phi (c : Dev nD) (t : Fin ((cfgA (F := F)).N + 1)) : sProp 𝕄 :=
  iprop((∃ a, ⌜t.val ≠ 0 → a = (st m c t.val).m⌝ ∗ (scM0.view.loc (c : Thread nD τ) ↦{fullShare} a))
    ∗ (∃ a, ⌜t.val ≠ 0 → a = (st m c t.val).l⌝ ∗ (scM1.view.loc (c : Thread nD τ) ↦{fullShare} a))
    ∗ (∃ a, ⌜t.val ≠ 0 → a = (st m c t.val).a⌝ ∗ (scM2.view.loc (c : Thread nD τ) ↦{fullShare} a))
    ∗ (tbM0.view.loc (c : Thread nD τ) ↦{fullShare.right} (T0 (F := F))) ∗ (tbM1.view.loc (c : Thread nD τ) ↦{fullShare.right} (T1 (F := F)))
    ∗ (∃ r, prngReg c r))

/-- The proof data of the pipeline on a core. -/
def dats (_ : Fin 1) (c : Dev nD) : Dat τ (Elt F) Unit ℕ (UR sig nD τ) ℕ (cfgA (F := F)) c where
  A w := V0 m c (Proc.devRef .tc (Pipeline.arrRef (cfgA (F := F)).spec w))
  after w t := match w with
    | ⟨0, _⟩ => iblk m c (0 : Fin 4) t
    | ⟨1, _⟩ => iblk m c (1 : Fin 4) t
    | ⟨2, _⟩ => iblk m c (2 : Fin 4) t
    | ⟨3, _⟩ => fin (st m c (t.val + 1))
  Φ t := Phi m c t
  q _ := fullShare
  owed _ := 0

/-- The queries' buffer after a point holds its block. -/
theorem after0_0 (c : Dev nD) (t : Fin (cfgA (F := F)).N) : (dats m 0 c).after (0 : Fin 4) t = iblk m c (0 : Fin 4) t := rfl
/-- The keys' buffer after a point holds its block. -/
theorem after0_1 (c : Dev nD) (t : Fin (cfgA (F := F)).N) : (dats m 0 c).after (1 : Fin 4) t = iblk m c (1 : Fin 4) t := rfl
/-- The values' buffer after a point holds its block. -/
theorem after0_2 (c : Dev nD) (t : Fin (cfgA (F := F)).N) : (dats m 0 c).after (2 : Fin 4) t = iblk m c (2 : Fin 4) t := rfl
/-- The result's buffer after a point holds the quotient of the scratches. -/
theorem after0_3 (c : Dev nD) (t : Fin (cfgA (F := F)).N) : (dats m 0 c).after (3 : Fin 4) t = fin (st m c (t.val + 1)) := rfl

/-- The queries' window holds its block. -/
theorem before0_0 (c : Dev nD) (t : Fin (cfgA (F := F)).N) (d) : (dats m 0 c).before (0 : Fin 4) t d = iblk m c (0 : Fin 4) t :=
  ((dats m 0 c).before_in_eq_fetched (0 : Fin 4) rfl (fun _ => rfl) (fun _ _ _ => rfl) (fun t => by rw [after0_0]; unfold Dat.blockOf iblk; rfl) t d).trans
    (by unfold Dat.fetched Dat.blockOf iblk; rfl)
/-- The keys' window holds its block. -/
theorem before0_1 (c : Dev nD) (t : Fin (cfgA (F := F)).N) (d) : (dats m 0 c).before (1 : Fin 4) t d = iblk m c (1 : Fin 4) t :=
  ((dats m 0 c).before_in_eq_fetched (1 : Fin 4) rfl (fun _ => rfl) (fun _ _ _ => rfl) (fun t => by rw [after0_1]; unfold Dat.blockOf iblk; rfl) t d).trans
    (by unfold Dat.fetched Dat.blockOf iblk; rfl)
/-- The values' window holds its block. -/
theorem before0_2 (c : Dev nD) (t : Fin (cfgA (F := F)).N) (d) : (dats m 0 c).before (2 : Fin 4) t d = iblk m c (2 : Fin 4) t :=
  ((dats m 0 c).before_in_eq_fetched (2 : Fin 4) rfl (fun _ => rfl) (fun _ _ _ => rfl) (fun t => by rw [after0_2]; unfold Dat.blockOf iblk; rfl) t d).trans
    (by unfold Dat.fetched Dat.blockOf iblk; rfl)
/-- The output's window holds anything. -/
theorem before0_3 (c : Dev nD) (t : Fin (cfgA (F := F)).N) (d) : (dats m 0 c).before (3 : Fin 4) t d = d := by
  rw [(dats m 0 c).before_out_traj (3 : Fin 4) rfl (fun _ _ => rfl) (fun t _ _ hf => absurd (hf.symm.trans (fresh_out t.val (Nat.le_of_lt t.isLt))) Bool.false_ne_true) t.val t rfl d,
    if_pos (fresh_out t.val (Nat.le_of_lt t.isLt))]

/-- The body at a point, as the pipeline calls it. -/
abbrev bodyAt0 (t : Fin (cfgA (F := F)).N) : Prog (TpuEff nD τ sig (Elt F) Λ₀ .tc) PUnit :=
  cc0_mla_prompt_attn (crd t) tbM0 (Memref.isWhole_whole _) tbM1 (Memref.isWhole_whole _) (ms0_0 t) (hs0_0 t) (ms0_1 t) (hs0_1 t) (ms0_2 t) (hs0_2 t) (ms0_3 t) (hs0_3 t) scM0 (Memref.isWhole_whole _) scM1 (Memref.isWhole_whole _) scM2 (Memref.isWhole_whole _)

set_option maxHeartbeats 4000000 in
/-- The body at a point takes what is held before it to what is held after it. -/
theorem sound_body (c : Dev nD) (t : Fin (cfgA (F := F)).N) :
    iprop((dats m 0 c).Φ t.castSucc ∗ (dats m 0 c).owesAt () t.castSucc
        ∗ (∃ d, owns (c : Thread nD τ) (ms0_0 t) fullShare ((dats m 0 c).before (0 : Fin 4) t d))
        ∗ (∃ d, owns (c : Thread nD τ) (ms0_1 t) fullShare ((dats m 0 c).before (1 : Fin 4) t d))
        ∗ (∃ d, owns (c : Thread nD τ) (ms0_2 t) fullShare ((dats m 0 c).before (2 : Fin 4) t d))
        ∗ (∃ d, owns (c : Thread nD τ) (ms0_3 t) fullShare ((dats m 0 c).before (3 : Fin 4) t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  obtain ⟨f12, f13, fi, ff, fz⟩ := facts (F := F) t
  by_cases h1 : c1 (F := F) (crd t) = 1#1
  · have h2 : ¬ c2 (F := F) (crd t) = 1#1 := f12.1 h1
    have h3 : c3 (F := F) (crd t) = 1#1 := f13.1 h1
    have i3 : (cfgA (F := F)).idle (3 : Fin 4) ((cfgA (F := F)).grid.coords t) = false := by rw [fi, beq_iff_eq.2 h1]; rfl
    have f3 : ((cfgA (F := F)).win (3 : Fin 4)).flush t = true := by rw [ff, beq_iff_eq.2 h1]
    by_cases h0 : c0 (F := F) (crd t) = 1#1
    · rewrite [i3]
      simp only [before0_0, before0_1, before0_2, before0_3, after0_0, after0_1, after0_2, after0_3, f3]
      rewrite [show (dats m 0 c).Φ t.succ = Phi m c t.succ from rfl, show (dats m 0 c).Φ t.castSucc = Phi m c t.castSucc from rfl, show (dats m 0 c).owesAt () t.succ = (dats m 0 c).owesAt () t.castSucc from rfl]
      unfold Phi; simp only [Fin.val_castSucc, Fin.val_succ]
      iintro ⟨⟨⟨%a0, %ha0, HS0⟩, ⟨%a1, %ha1, HS1⟩, ⟨%a2, %ha2, HS2⟩, HT0, HT1, Hp⟩, Ho, ⟨%d0, H0⟩, ⟨%d1, H1⟩, ⟨%d2, H2⟩, ⟨%d3, H3⟩⟩
      iapply ((runA c (crd t) (ms0_0 t) (hs0_0 t) (ms0_1 t) (hs0_1 t) (ms0_2 t) (hs0_2 t) (ms0_3 t) (hs0_3 t) (bq m c t) (bk m c t) (bv m c t) h0 h1 h2 h3).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 Hp]
      · isplitl [HS0]
        · iexists _; isplitr; swap
          · iexact HS0
          · ipureintro; intro _; rw [st_succ, step_A m c t _ h0 h1]; exact runA_m c (crd t) (ms0_0 t) (hs0_0 t) (ms0_1 t) (hs0_1 t) (ms0_2 t) (hs0_2 t) (ms0_3 t) (hs0_3 t) (bq m c t) (bk m c t) (bv m c t) h0 h1 h2 h3
        isplitl [HS1]
        · iexists _; isplitr; swap
          · iexact HS1
          · ipureintro; intro _; rw [st_succ, step_A m c t _ h0 h1]; exact runA_l c (crd t) (ms0_0 t) (hs0_0 t) (ms0_1 t) (hs0_1 t) (ms0_2 t) (hs0_2 t) (ms0_3 t) (hs0_3 t) (bq m c t) (bk m c t) (bv m c t) h0 h1 h2 h3
        isplitl [HS2]
        · iexists _; isplitr; swap
          · iexact HS2
          · ipureintro; intro _; rw [st_succ, step_A m c t _ h0 h1]; exact runA_a c (crd t) (ms0_0 t) (hs0_0 t) (ms0_1 t) (hs0_1 t) (ms0_2 t) (hs0_2 t) (ms0_3 t) (hs0_3 t) (bq m c t) (bk m c t) (bv m c t) h0 h1 h2 h3
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; rw [st_succ, step_A m c t _ h0 h1]; exact runA_out c (crd t) (ms0_0 t) (hs0_0 t) (ms0_1 t) (hs0_1 t) (ms0_2 t) (hs0_2 t) (ms0_3 t) (hs0_3 t) (bq m c t) (bk m c t) (bv m c t) h0 h1 h2 h3 _
    · have hz : t.val ≠ 0 := fun e => h0 (fz e)
      rewrite [i3]
      simp only [before0_0, before0_1, before0_2, before0_3, after0_0, after0_1, after0_2, after0_3, f3]
      rewrite [show (dats m 0 c).Φ t.succ = Phi m c t.succ from rfl, show (dats m 0 c).Φ t.castSucc = Phi m c t.castSucc from rfl, show (dats m 0 c).owesAt () t.succ = (dats m 0 c).owesAt () t.castSucc from rfl]
      unfold Phi; simp only [Fin.val_castSucc, Fin.val_succ]
      iintro ⟨⟨⟨%a0, %ha0, HS0⟩, ⟨%a1, %ha1, HS1⟩, ⟨%a2, %ha2, HS2⟩, HT0, HT1, Hp⟩, Ho, ⟨%d0, H0⟩, ⟨%d1, H1⟩, ⟨%d2, H2⟩, ⟨%d3, H3⟩⟩
      obtain rfl := ha0 hz; obtain rfl := ha1 hz; obtain rfl := ha2 hz
      iapply ((runC c (crd t) (ms0_0 t) (hs0_0 t) (ms0_1 t) (hs0_1 t) (ms0_2 t) (hs0_2 t) (ms0_3 t) (hs0_3 t) (bq m c t) (bk m c t) (bv m c t) (st m c t.val).m (st m c t.val).l (st m c t.val).a h0 h1 h2 h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 Hp]
      · isplitl [HS0]
        · iexists _; isplitr; swap
          · iexact HS0
          · ipureintro; intro _; rw [st_succ, step_C m c t _ h0 h1]; exact runC_m c (crd t) (ms0_0 t) (hs0_0 t) (ms0_1 t) (hs0_1 t) (ms0_2 t) (hs0_2 t) (ms0_3 t) (hs0_3 t) (bq m c t) (bk m c t) (bv m c t) (st m c t.val) h0 h1 h2 h3
        isplitl [HS1]
        · iexists _; isplitr; swap
          · iexact HS1
          · ipureintro; intro _; rw [st_succ, step_C m c t _ h0 h1]; exact runC_l c (crd t) (ms0_0 t) (hs0_0 t) (ms0_1 t) (hs0_1 t) (ms0_2 t) (hs0_2 t) (ms0_3 t) (hs0_3 t) (bq m c t) (bk m c t) (bv m c t) (st m c t.val) h0 h1 h2 h3
        isplitl [HS2]
        · iexists _; isplitr; swap
          · iexact HS2
          · ipureintro; intro _; rw [st_succ, step_C m c t _ h0 h1]; exact runC_a c (crd t) (ms0_0 t) (hs0_0 t) (ms0_1 t) (hs0_1 t) (ms0_2 t) (hs0_2 t) (ms0_3 t) (hs0_3 t) (bq m c t) (bk m c t) (bv m c t) (st m c t.val) h0 h1 h2 h3
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; rw [st_succ, step_C m c t _ h0 h1]; exact runC_out c (crd t) (ms0_0 t) (hs0_0 t) (ms0_1 t) (hs0_1 t) (ms0_2 t) (hs0_2 t) (ms0_3 t) (hs0_3 t) (bq m c t) (bk m c t) (bv m c t) (st m c t.val) h0 h1 h2 h3 _
  · have h2 : c2 (F := F) (crd t) = 1#1 := Classical.not_not.1 fun h => h1 (f12.2 h)
    have h3 : ¬ c3 (F := F) (crd t) = 1#1 := fun h => h1 (f13.2 h)
    have hb : (c1 (F := F) (crd t) == 1#1) = false := Bool.eq_false_iff.2 fun h => h1 (beq_iff_eq.1 h)
    have i3 : (cfgA (F := F)).idle (3 : Fin 4) ((cfgA (F := F)).grid.coords t) = true := by rw [fi, hb]; rfl
    have f3 : ((cfgA (F := F)).win (3 : Fin 4)).flush t = false := by rw [ff, hb]
    by_cases h0 : c0 (F := F) (crd t) = 1#1
    · rewrite [i3]
      simp only [before0_0, before0_1, before0_2, before0_3, after0_0, after0_1, after0_2, after0_3, f3]
      rewrite [show (dats m 0 c).Φ t.succ = Phi m c t.succ from rfl, show (dats m 0 c).Φ t.castSucc = Phi m c t.castSucc from rfl, show (dats m 0 c).owesAt () t.succ = (dats m 0 c).owesAt () t.castSucc from rfl]
      unfold Phi; simp only [Fin.val_castSucc, Fin.val_succ]
      iintro ⟨⟨⟨%a0, %ha0, HS0⟩, ⟨%a1, %ha1, HS1⟩, ⟨%a2, %ha2, HS2⟩, HT0, HT1, Hp⟩, Ho, ⟨%d0, H0⟩, ⟨%d1, H1⟩, ⟨%d2, H2⟩, ⟨%d3, H3⟩⟩
      iapply ((runB c (crd t) (ms0_0 t) (hs0_0 t) (ms0_1 t) (hs0_1 t) (ms0_2 t) (hs0_2 t) (ms0_3 t) (hs0_3 t) (bq m c t) (bk m c t) (bv m c t) h0 h1 h2 h3).2.2.2 d3 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 Hp]
      · isplitl [HS0]
        · iexists _; isplitr; swap
          · iexact HS0
          · ipureintro; intro _; rw [st_succ, step_B m c t _ h0 h1]; exact runB_m c (crd t) (ms0_0 t) (hs0_0 t) (ms0_1 t) (hs0_1 t) (ms0_2 t) (hs0_2 t) (ms0_3 t) (hs0_3 t) (bq m c t) (bk m c t) (bv m c t) h0 h1 h2 h3
        isplitl [HS1]
        · iexists _; isplitr; swap
          · iexact HS1
          · ipureintro; intro _; rw [st_succ, step_B m c t _ h0 h1]; exact runB_l c (crd t) (ms0_0 t) (hs0_0 t) (ms0_1 t) (hs0_1 t) (ms0_2 t) (hs0_2 t) (ms0_3 t) (hs0_3 t) (bq m c t) (bk m c t) (bv m c t) h0 h1 h2 h3
        isplitl [HS2]
        · iexists _; isplitr; swap
          · iexact HS2
          · ipureintro; intro _; rw [st_succ, step_B m c t _ h0 h1]; exact runB_a c (crd t) (ms0_0 t) (hs0_0 t) (ms0_1 t) (hs0_1 t) (ms0_2 t) (hs0_2 t) (ms0_3 t) (hs0_3 t) (bq m c t) (bk m c t) (bv m c t) h0 h1 h2 h3
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      iexists d3; iexact H3
    · have hz : t.val ≠ 0 := fun e => h0 (fz e)
      rewrite [i3]
      simp only [before0_0, before0_1, before0_2, before0_3, after0_0, after0_1, after0_2, after0_3, f3]
      rewrite [show (dats m 0 c).Φ t.succ = Phi m c t.succ from rfl, show (dats m 0 c).Φ t.castSucc = Phi m c t.castSucc from rfl, show (dats m 0 c).owesAt () t.succ = (dats m 0 c).owesAt () t.castSucc from rfl]
      unfold Phi; simp only [Fin.val_castSucc, Fin.val_succ]
      iintro ⟨⟨⟨%a0, %ha0, HS0⟩, ⟨%a1, %ha1, HS1⟩, ⟨%a2, %ha2, HS2⟩, HT0, HT1, Hp⟩, Ho, ⟨%d0, H0⟩, ⟨%d1, H1⟩, ⟨%d2, H2⟩, ⟨%d3, H3⟩⟩
      obtain rfl := ha0 hz; obtain rfl := ha1 hz; obtain rfl := ha2 hz
      iapply ((runD c (crd t) (ms0_0 t) (hs0_0 t) (ms0_1 t) (hs0_1 t) (ms0_2 t) (hs0_2 t) (ms0_3 t) (hs0_3 t) (bq m c t) (bk m c t) (bv m c t) (st m c t.val).m (st m c t.val).l (st m c t.val).a h0 h1 h2 h3).2.2.2 d3 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 Hp]
      · isplitl [HS0]
        · iexists _; isplitr; swap
          · iexact HS0
          · ipureintro; intro _; rw [st_succ, step_D m c t _ h0 h1]; exact runD_m c (crd t) (ms0_0 t) (hs0_0 t) (ms0_1 t) (hs0_1 t) (ms0_2 t) (hs0_2 t) (ms0_3 t) (hs0_3 t) (bq m c t) (bk m c t) (bv m c t) (st m c t.val) h0 h1 h2 h3
        isplitl [HS1]
        · iexists _; isplitr; swap
          · iexact HS1
          · ipureintro; intro _; rw [st_succ, step_D m c t _ h0 h1]; exact runD_l c (crd t) (ms0_0 t) (hs0_0 t) (ms0_1 t) (hs0_1 t) (ms0_2 t) (hs0_2 t) (ms0_3 t) (hs0_3 t) (bq m c t) (bk m c t) (bv m c t) (st m c t.val) h0 h1 h2 h3
        isplitl [HS2]
        · iexists _; isplitr; swap
          · iexact HS2
          · ipureintro; intro _; rw [st_succ, step_D m c t _ h0 h1]; exact runD_a c (crd t) (ms0_0 t) (hs0_0 t) (ms0_1 t) (hs0_1 t) (ms0_2 t) (hs0_2 t) (ms0_3 t) (hs0_3 t) (bq m c t) (bk m c t) (bv m c t) (st m c t.val) h0 h1 h2 h3
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      iexists d3; iexact H3

/-- The body's obligation, at every point. -/
theorem body_obligation (c : Dev nD) : BodyObligation (dats m 0 c) (defs₀ (F := F)) Variants.none () Set.univ := fun t => by
  rw [bigSep_W0]
  exact sound_body m c t

end Cert.KernelIdeal.Attn

end
-- ==== Proof.Run.lean ====
/- The run of the whole program. -/
module

public import proofs.«01_k».proof.Proof.Body
public import Idealize.ShloMosaic.Lib.StableHlo.ReadAt
public import Idealize.ShloMosaic.Lib.Pipeline.FrameSuffix

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- Every window's array is held whole. -/
theorem share_eq (c : Dev nD) (w : Fin (cfgA (F := F)).W) : (dats m 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- What is held at the first point, from the tables and the scratch buffers. -/
theorem phi0_intro (c : Dev nD) :
    iprop(Pipeline.ΦA spec0 c ∗ Pipeline.ΦT pre0 (adm (F := F)).1 c) ⊢ (dats m 0 c).Φ 0 := by
  unfold Pipeline.ΦA Pipeline.ΦT
  rw [prefHeld_eq, scopedRest0_eq, show (dats m 0 c).Φ 0 = Phi m c 0 from rfl]
  unfold Phi
  iintro ⟨⟨⟨⟨%a0, HS0⟩, ⟨%a1, HS1⟩, ⟨%a2, HS2⟩⟩, Hp⟩, HT0, HT1⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  isplitl [HT1]
  · iexact HT1
  iexact Hp

/-- What is held at the last point gives the scratch buffers back. -/
theorem phiN_exit (c : Dev nD) : (dats m 0 c).Φ (Fin.last (cfgA (F := F)).N) ⊢ Pipeline.ΦA spec0 c := by
  unfold Pipeline.ΦA
  rw [scopedRest0_eq, show (dats m 0 c).Φ (Fin.last (cfgA (F := F)).N) = Phi m c (Fin.last _) from rfl]
  unfold Phi
  iintro ⟨⟨%a0, -, HS0⟩, ⟨%a1, -, HS1⟩, ⟨%a2, -, HS2⟩, -, -, Hp⟩
  isplitr [Hp]
  · isplitl [HS0]
    · iexists a0; iexact HS0
    isplitl [HS1]
    · iexists a1; iexact HS1
    iexists a2; iexact HS2
  iexact Hp

/-- The first host operations make no buffers. -/
theorem fresh0 : [hostOps0 (F := F)].Forall fun ops => ops.Forall fun op => op.fresh = ∅ :=
  ⟨rfl, rfl, rfl, rfl, rfl, rfl, rfl, rfl, rfl, rfl, rfl, rfl, rfl, rfl, rfl, rfl, rfl, rfl, rfl, rfl, rfl, rfl, rfl⟩

/-- The table buffers hold the tables when the pipeline is entered. -/
theorem V0_pre (c : Dev nD) (k : Fin 2) : V0 m c (Proc.devRef .tc (pre0.ref k)) = (adm (F := F)).1 k := by
  fin_cases k
  · show V0 m c (Proc.devRef .tc main_c) = _
    unfold V0; rw [List.flatten_singleton]; after_reads_simp; rfl
  · show V0 m c (Proc.devRef .tc main_c_0) = _
    unfold V0; rw [List.flatten_singleton]; after_reads_simp; rfl

/-- The kernel's result, from what the pipeline leaves in its output array. -/
def result (c : Dev nD) : S4x8192x8x256.Idx → Elt F .bf16 :=
  shapeCast S4x8192x8x256 (transpose S64x512x8x256 [0, 2, 1, 3] ((dats m 0 c).arrAt (3 : Fin 4) (cfgA (F := F)).N) transposes_S64x8x512x256_S64x512x8x256_0_2_1_3) shapeCasts_S64x512x8x256_S4x8192x8x256

/-- The argument arrays end as they began. -/
theorem arg_not_write {b : Ref sig .tc} (hb : b = main_arg0 ∨ b = main_arg1 ∨ b = main_arg2 ∨ b = main_arg3) (c : Dev nD) :
    Pipeline.afterTail pcfgs (fun _ => adm) (dats m) 0 (V0 m) [hostOps1] c b = m ((c.tc : Thread nD τ).loc b) := by
  unfold Pipeline.afterTail
  rw [List.flatten_singleton]
  rcases hb with rfl | rfl | rfl | rfl
  · after_reads_simp
    refine (Pipeline.withArrays_of_ne spec0 c (V0 m c) (fun w => (dats m 0 c).arrAt w (cfgA (F := F)).N) main_arg0 (by decide)).trans ?_
    unfold V0; rw [List.flatten_singleton]; after_reads_simp
  · after_reads_simp
    refine (Pipeline.withArrays_of_ne spec0 c (V0 m c) (fun w => (dats m 0 c).arrAt w (cfgA (F := F)).N) main_arg1 (by decide)).trans ?_
    unfold V0; rw [List.flatten_singleton]; after_reads_simp
  · after_reads_simp
    refine (Pipeline.withArrays_of_ne spec0 c (V0 m c) (fun w => (dats m 0 c).arrAt w (cfgA (F := F)).N) main_arg2 (by decide)).trans ?_
    unfold V0; rw [List.flatten_singleton]; after_reads_simp
  · after_reads_simp
    refine (Pipeline.withArrays_of_ne spec0 c (V0 m c) (fun w => (dats m 0 c).arrAt w (cfgA (F := F)).N) main_arg3 (by decide)).trans ?_
    unfold V0; rw [List.flatten_singleton]; after_reads_simp

/-- The last host operations leave the result's array. -/
theorem tail_result (c : Dev nD) :
    Pipeline.afterTail pcfgs (fun _ => adm) (dats m) 0 (V0 m) [hostOps1] c main_v19 = result m c := by
  unfold Pipeline.afterTail result
  rw [List.flatten_singleton]
  after_reads_simp
  have h := Pipeline.withArrays_arr spec0 winFacts0.arr_inj c (V0 m c) (fun w => (dats m 0 c).arrAt w (cfgA (F := F)).N) (3 : Fin 4)
  exact congrArg (fun x : S64x8x512x256.Idx → Elt F .bf16 => shapeCast S4x8192x8x256 (transpose S64x512x8x256 [0, 2, 1, 3] x transposes_S64x8x512x256_S64x512x8x256_0_2_1_3) shapeCasts_S64x512x8x256_S4x8192x8x256) h

/-- How the program ends: the result's buffer at `result`, the arguments as they were, every semaphore at zero. -/
def Post (r : PUnit × MemSt nD τ sig (Elt F)) : Prop := (∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0

set_option backward.isDefEq.respectTransparency.types false in
set_option maxHeartbeats 4000000 in
/-- The program runs from any memory: it ends with the result's buffer at `result`, its arguments as they were and every semaphore at zero. -/
theorem run_main : θ_run (defs (F := F)) (onTc (τ := τ) (main (F := F))) (s₀ m g) (Post m) :=
  Pipeline.θ_run_frameP_around_track pcfgs (fun _ => adm) (dats m) (0 : Fin 1) launch0 defs₀ Variants.none m g main
    (hbody := fun c => (body_obligation m c).loose) (hshare := share_eq m) (howed := fun _ _ => rfl)
    (V₀ := V0 m) (opss := [hostOps1])
    (hsub := fun ops ho op hop => by
      obtain rfl := List.mem_singleton.1 ho
      exact Pipeline.sub_tailRefs pre0 spec0 op (List.forall_iff_forall_mem.1 hostOps1_sub op hop)
        (List.forall_iff_forall_mem.1 (show (hostOps1 (F := F)).Forall fun op => ∀ k, Proc.devRef .tc (pre0.ref k) ∉ op.bufs from
          ⟨show ∀ k : Fin 2, Proc.devRef (τ := τ) .tc (pre0.ref k) ∉ ({Proc.devRef .tc main_v17, Proc.devRef .tc main_v18} : Finset (DevRef τ sig)) from by decide,
            show ∀ k : Fin 2, Proc.devRef (τ := τ) .tc (pre0.ref k) ∉ ({Proc.devRef .tc main_v18, Proc.devRef .tc main_v19} : Finset (DevRef τ sig)) from by decide⟩) op hop))
    (hfresh := fun ops ho op hop => by
      obtain rfl := List.mem_singleton.1 ho
      exact List.forall_iff_forall_mem.1 (show (hostOps1 (F := F)).Forall fun op => op.fresh = ∅ from ⟨rfl, rfl⟩) op hop)
    (hkeep := fun ops ho op hop => by
      obtain rfl := List.mem_singleton.1 ho
      exact List.forall_iff_forall_mem.1 (show (hostOps1 (F := F)).Forall fun op => ∀ w, Proc.devRef .tc (Pipeline.arrRef spec0 w) ∉ op.writes from
          ⟨show ∀ w : Fin 4, Proc.devRef (τ := τ) .tc (Pipeline.arrRef spec0 w) ∉ ({Proc.devRef .tc main_v18} : Finset (DevRef τ sig)) from by decide,
            show ∀ w : Fin 4, Proc.devRef (τ := τ) .tc (Pipeline.arrRef spec0 w) ∉ ({Proc.devRef .tc main_v19} : Finset (DevRef τ sig)) from by decide⟩) op hop)
    (hmain := Pipeline.hmainP_around pcfgs 0 defs₀ Variants.none m main [hostOps0] [hostOps1] hostOps0_sub fresh0 main_chain)
    (hA := fun _ _ => rfl)
    (hpf := V0_pre m)
    (hin := phi0_intro m) (hout := phiN_exit m)
    (Q' := Post m) (hQ' := fun r ⟨h, hz⟩ => ⟨fun c => ⟨((h c).2 main_v19 (show main_v19 ∈ Pipeline.restRefs sig spec0 from by decide)).trans (tail_result m c),
      ((h c).2 main_arg0 (show main_arg0 ∈ Pipeline.restRefs sig spec0 from by decide)).trans (arg_not_write m (.inl rfl) c),
      ((h c).2 main_arg1 (show main_arg1 ∈ Pipeline.restRefs sig spec0 from by decide)).trans (arg_not_write m (.inr (.inl rfl)) c),
      ((h c).2 main_arg2 (show main_arg2 ∈ Pipeline.restRefs sig spec0 from by decide)).trans (arg_not_write m (.inr (.inr (.inl rfl))) c),
      ((h c).2 main_arg3 (show main_arg3 ∈ Pipeline.restRefs sig spec0 from by decide)).trans (arg_not_write m (.inr (.inr (.inr rfl))) c)⟩, hz⟩)

end Cert.KernelIdeal.Attn

end
-- ==== Proof.Points.lean ====
/- The points of the grid: each one's sequence, query block and key block, and where its windows lie. -/
module

public import proofs.«01_k».proof.Proof.Cfg
public import Idealize.ShloMosaic.Lib.Pipeline.ValueKit.Geometry

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic

variable {F : FTy → Type} [FloatOps F]

/-- A point's query block and its key block. -/
abbrev qi (t : Fin (cfgA (F := F)).N) : ℕ := BitVec.toNat (w0 (F := F) (crd t))
abbrev ki (t : Fin (cfgA (F := F)).N) : ℕ := BitVec.toNat (w1 (F := F) (crd t))

/-- The point before, where there is one. -/
abbrev prev (t : Fin (cfgA (F := F)).N) : Fin (cfgA (F := F)).N := ⟨t.val - 1, lt_of_le_of_lt (Nat.sub_le _ _) t.isLt⟩

/-- What a point's words decide: the first key block starts the state, the query block's own number ends it, and before any
    other key block stands the one before it of the same query block. -/
abbrev WordsAt (t : Fin (cfgA (F := F)).N) : Prop :=
  qi t < 16 ∧ ki t ≤ qi t ∧ ((c0 (F := F) (crd t) = 1#1) ↔ ki t = 0) ∧ ((c1 (F := F) (crd t) = 1#1) ↔ ki t = qi t)
  ∧ (ki t = 0 ∨ (ki (prev t) + 1 = ki t ∧ qi (prev t) = qi t ∧ (t.val - 1) / 136 = t.val / 136 ∧ t.val ≠ 0))

/-- Where a point's windows lie. -/
abbrev PlaceAt (t : Fin (cfgA (F := F)).N) : Prop :=
  ((cfgA (F := F)).win (0 : Fin 4)).index t = ![t.val / 136 * 16 + qi t, 0, 0, 0]
  ∧ ((cfgA (F := F)).win (1 : Fin 4)).index t = ![t.val / 136 * 16 + ki t, 0]
  ∧ ((cfgA (F := F)).win (2 : Fin 4)).index t = ![0, t.val / 136 * 16 + ki t]
  ∧ ((cfgA (F := F)).win (3 : Fin 4)).index t = ![t.val / 136 * 16 + qi t, 0, 0, 0]

/-- The tables' words at a stretch of the grid's points. -/
theorem words_0 : ∀ t : Fin (cfgA (F := F)).N, 0 ≤ t.val → t.val < 68 → WordsAt t := of_decide_eq_true (by sl_kernel_rfl)
/-- The tables' words at a stretch of the grid's points. -/
theorem words_1 : ∀ t : Fin (cfgA (F := F)).N, 68 ≤ t.val → t.val < 136 → WordsAt t := of_decide_eq_true (by sl_kernel_rfl)
/-- The tables' words at a stretch of the grid's points. -/
theorem words_2 : ∀ t : Fin (cfgA (F := F)).N, 136 ≤ t.val → t.val < 204 → WordsAt t := of_decide_eq_true (by sl_kernel_rfl)
/-- The tables' words at a stretch of the grid's points. -/
theorem words_3 : ∀ t : Fin (cfgA (F := F)).N, 204 ≤ t.val → t.val < 272 → WordsAt t := of_decide_eq_true (by sl_kernel_rfl)
/-- The tables' words at a stretch of the grid's points. -/
theorem words_4 : ∀ t : Fin (cfgA (F := F)).N, 272 ≤ t.val → t.val < 340 → WordsAt t := of_decide_eq_true (by sl_kernel_rfl)
/-- The tables' words at a stretch of the grid's points. -/
theorem words_5 : ∀ t : Fin (cfgA (F := F)).N, 340 ≤ t.val → t.val < 408 → WordsAt t := of_decide_eq_true (by sl_kernel_rfl)
/-- The tables' words at a stretch of the grid's points. -/
theorem words_6 : ∀ t : Fin (cfgA (F := F)).N, 408 ≤ t.val → t.val < 476 → WordsAt t := of_decide_eq_true (by sl_kernel_rfl)
/-- The tables' words at a stretch of the grid's points. -/
theorem words_7 : ∀ t : Fin (cfgA (F := F)).N, 476 ≤ t.val → t.val < 544 → WordsAt t := of_decide_eq_true (by sl_kernel_rfl)

/-- The tables' words at every point of the grid. -/
theorem words : ∀ t : Fin (cfgA (F := F)).N, WordsAt t := fun t => by
  have h0 : 0 ≤ t.val := Nat.zero_le _
  rcases Nat.lt_or_ge t.val 68 with h1 | h1; · exact words_0 t h0 h1
  rcases Nat.lt_or_ge t.val 136 with h2 | h2; · exact words_1 t h1 h2
  rcases Nat.lt_or_ge t.val 204 with h3 | h3; · exact words_2 t h2 h3
  rcases Nat.lt_or_ge t.val 272 with h4 | h4; · exact words_3 t h3 h4
  rcases Nat.lt_or_ge t.val 340 with h5 | h5; · exact words_4 t h4 h5
  rcases Nat.lt_or_ge t.val 408 with h6 | h6; · exact words_5 t h5 h6
  rcases Nat.lt_or_ge t.val 476 with h7 | h7; · exact words_6 t h6 h7
  exact words_7 t h7 t.isLt

/-- The blocks' places at a stretch of the grid's points. -/
theorem place_0 : ∀ t : Fin (cfgA (F := F)).N, 0 ≤ t.val → t.val < 68 → PlaceAt t := of_decide_eq_true (by sl_kernel_rfl)
/-- The blocks' places at a stretch of the grid's points. -/
theorem place_1 : ∀ t : Fin (cfgA (F := F)).N, 68 ≤ t.val → t.val < 136 → PlaceAt t := of_decide_eq_true (by sl_kernel_rfl)
/-- The blocks' places at a stretch of the grid's points. -/
theorem place_2 : ∀ t : Fin (cfgA (F := F)).N, 136 ≤ t.val → t.val < 204 → PlaceAt t := of_decide_eq_true (by sl_kernel_rfl)
/-- The blocks' places at a stretch of the grid's points. -/
theorem place_3 : ∀ t : Fin (cfgA (F := F)).N, 204 ≤ t.val → t.val < 272 → PlaceAt t := of_decide_eq_true (by sl_kernel_rfl)
/-- The blocks' places at a stretch of the grid's points. -/
theorem place_4 : ∀ t : Fin (cfgA (F := F)).N, 272 ≤ t.val → t.val < 340 → PlaceAt t := of_decide_eq_true (by sl_kernel_rfl)
/-- The blocks' places at a stretch of the grid's points. -/
theorem place_5 : ∀ t : Fin (cfgA (F := F)).N, 340 ≤ t.val → t.val < 408 → PlaceAt t := of_decide_eq_true (by sl_kernel_rfl)
/-- The blocks' places at a stretch of the grid's points. -/
theorem place_6 : ∀ t : Fin (cfgA (F := F)).N, 408 ≤ t.val → t.val < 476 → PlaceAt t := of_decide_eq_true (by sl_kernel_rfl)
/-- The blocks' places at a stretch of the grid's points. -/
theorem place_7 : ∀ t : Fin (cfgA (F := F)).N, 476 ≤ t.val → t.val < 544 → PlaceAt t := of_decide_eq_true (by sl_kernel_rfl)

/-- The blocks' places at every point of the grid. -/
theorem place : ∀ t : Fin (cfgA (F := F)).N, PlaceAt t := fun t => by
  have h0 : 0 ≤ t.val := Nat.zero_le _
  rcases Nat.lt_or_ge t.val 68 with h1 | h1; · exact place_0 t h0 h1
  rcases Nat.lt_or_ge t.val 136 with h2 | h2; · exact place_1 t h1 h2
  rcases Nat.lt_or_ge t.val 204 with h3 | h3; · exact place_2 t h2 h3
  rcases Nat.lt_or_ge t.val 272 with h4 | h4; · exact place_3 t h3 h4
  rcases Nat.lt_or_ge t.val 340 with h5 | h5; · exact place_4 t h4 h5
  rcases Nat.lt_or_ge t.val 408 with h6 | h6; · exact place_5 t h5 h6
  rcases Nat.lt_or_ge t.val 476 with h7 | h7; · exact place_6 t h6 h7
  exact place_7 t h7 t.isLt

/-- The result's blocks cover the array. -/
theorem covers3 : ((cfgA (F := F)).win (3 : Fin 4)).Covers := of_decide_eq_true (by sl_kernel_rfl)

end Cert.KernelIdeal.Attn
-- ==== Proof.Soft.lean ====
module

public import Idealize.ShloMosaic.PureOps.Ideal.Laws
public import Mathlib.Algebra.BigOperators.Fin
public import Mathlib.Algebra.BigOperators.Field

/-! The softmax of one lane on the extended reals: the running maximum, sum and weighted sum of the flash loop, and the
    plain softmax they add up to. -/

@[expose] public section

namespace Cert.KernelIdeal.Attn

open Idealize.ShloMosaic

/-- A lane's running triple: a real maximum with the sum and the weighted sum measured from it. -/
def Holds (m l a : EReal) (L A : ℝ) : Prop :=
  ∃ M : ℝ, m = (M : EReal) ∧ l = (((2 : ℝ) ^ (-M) * L : ℝ) : EReal) ∧ a = (((2 : ℝ) ^ (-M) * A : ℝ) : EReal)

/-- A lane before its first block, or a lane that holds sums already. -/
def Before (m l a : EReal) (L A : ℝ) : Prop :=
  (m = ⊥ ∧ l = 0 ∧ a = 0 ∧ L = 0 ∧ A = 0) ∨ Holds m l a L A

/-- Two to the power of minus infinity is zero. -/
theorem exp2_bot : Ideal.exp2 ⊥ = 0 := rfl

/-- Two to the power of a real. -/
theorem exp2_coe (r : ℝ) : Ideal.exp2 (r : EReal) = (((2 : ℝ) ^ r : ℝ) : EReal) := rfl

/-- The exponential of minus infinity is zero. -/
theorem exp_bot : Ideal.exp ⊥ = 0 := rfl

/-- The exponential of a real. -/
theorem exp_coe (r : ℝ) : Ideal.exp (r : EReal) = ((Real.exp r : ℝ) : EReal) := rfl

/-- A finite sum of reals, read on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score against a real maximum: a power of two, or nothing where the score is masked. -/
theorem weight_eq (p : Prop) [Decidable p] (s M : ℝ) :
    Ideal.exp2 ((if p then (s : EReal) else ⊥) - (M : EReal)) = (((2 : ℝ) ^ (-M) * (if p then (2 : ℝ) ^ s else 0) : ℝ) : EReal) := by
  by_cases h : p
  · rw [if_pos h, if_pos h, ← EReal.coe_sub, exp2_coe, sub_eq_neg_add, Real.rpow_add (by norm_num)]
  · rw [if_neg h, if_neg h, EReal.bot_sub, exp2_bot, mul_zero, EReal.coe_zero]

/-- The correction that moves sums measured from one maximum to another. -/
theorem corr_mul (M M' L : ℝ) :
    (((2 : ℝ) ^ (-M) * L : ℝ) : EReal) * Ideal.exp2 ((M : EReal) - (M' : EReal)) = (((2 : ℝ) ^ (-M') * L : ℝ) : EReal) := by
  rw [← EReal.coe_sub, exp2_coe, ← EReal.coe_mul]
  congr 1
  have h : (2 : ℝ) ^ (-M') = (2 : ℝ) ^ (-M) * (2 : ℝ) ^ (M - M') := by
    rw [← Real.rpow_add (by norm_num)]; congr 1; ring
  rw [h]; ring

/-- One block of keys: the triple moves to the new maximum and gains the block's visible weights. -/
theorem holds_step {n : ℕ} (p : Fin n → Prop) [DecidablePred p] (s v : Fin n → ℝ) (m l a m' : EReal) (L A : ℝ)
    (hb : Before m l a L A) (hm : ∃ M' : ℝ, m' = (M' : EReal)) :
    Holds m' (l * Ideal.exp2 (m - m') + ∑ j, Ideal.exp2 ((if p j then (s j : EReal) else ⊥) - m'))
      (a * Ideal.exp2 (m - m') + ∑ j, (v j : EReal) * Ideal.exp2 ((if p j then (s j : EReal) else ⊥) - m'))
      (L + ∑ j, if p j then (2 : ℝ) ^ s j else 0) (A + ∑ j, v j * (if p j then (2 : ℝ) ^ s j else 0)) := by
  obtain ⟨M', rfl⟩ := hm
  have e1 : ∑ j, Ideal.exp2 ((if p j then (s j : EReal) else ⊥) - (M' : EReal))
      = (((2 : ℝ) ^ (-M') * ∑ j, (if p j then (2 : ℝ) ^ s j else 0) : ℝ) : EReal) := by
    rw [Finset.mul_sum, coe_sum]; exact Finset.sum_congr rfl fun j _ => weight_eq _ _ _
  have e2 : ∑ j, (v j : EReal) * Ideal.exp2 ((if p j then (s j : EReal) else ⊥) - (M' : EReal))
      = (((2 : ℝ) ^ (-M') * ∑ j, v j * (if p j then (2 : ℝ) ^ s j else 0) : ℝ) : EReal) := by
    rw [Finset.mul_sum, coe_sum]
    refine Finset.sum_congr rfl fun j _ => ?_
    rw [weight_eq, ← EReal.coe_mul]; congr 1; ring
  refine ⟨M', rfl, ?_, ?_⟩
  · rw [e1]
    rcases hb with ⟨rfl, rfl, rfl, rfl, rfl⟩ | ⟨M, rfl, rfl, rfl⟩
    · rw [zero_mul, zero_add, zero_add]
    · rw [corr_mul, ← EReal.coe_add, mul_add]
  · rw [e2]
    rcases hb with ⟨rfl, rfl, rfl, rfl, rfl⟩ | ⟨M, rfl, rfl, rfl⟩
    · rw [zero_mul, zero_add, zero_add]
    · rw [corr_mul, ← EReal.coe_add, mul_add]

/-- The maximum of a block with the running one is real as soon as one of them is not masked. -/
theorem max_real {n : ℕ} (p : Fin n → Prop) [DecidablePred p] (s : Fin n → ℝ) (m : EReal)
    (hm : m ≠ ⊤) (h : m ≠ ⊥ ∨ ∃ j, p j) :
    ∃ M' : ℝ, max m (Finset.univ.fold max ⊥ fun j => if p j then (s j : EReal) else ⊥) = (M' : EReal) := by
  have ht : Finset.univ.fold max ⊥ (fun j => if p j then (s j : EReal) else ⊥) < ⊤ := by
    rw [Finset.fold_max_lt]
    exact ⟨bot_lt_top, fun j _ => by by_cases hp : p j <;> simp [hp, EReal.coe_lt_top]⟩
  have h1 : max m (Finset.univ.fold max ⊥ fun j => if p j then (s j : EReal) else ⊥) ≠ ⊤ :=
    (max_lt (lt_top_iff_ne_top.2 hm) ht).ne
  have h2 : max m (Finset.univ.fold max ⊥ fun j => if p j then (s j : EReal) else ⊥) ≠ ⊥ := by
    refine (bot_lt_iff_ne_bot.1 ?_)
    rcases h with h | ⟨j, hj⟩
    · exact lt_max_of_lt_left (bot_lt_iff_ne_bot.2 h)
    · refine lt_max_of_lt_right ((Finset.lt_fold_max _).2 (Or.inr ⟨j, Finset.mem_univ _, ?_⟩))
      simp [hj, EReal.bot_lt_coe]
  exact ⟨_, (EReal.coe_toReal h1 h2).symm⟩

/-- A quotient of two reals. -/
theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- The lane's last division: the common factor of the two sums cancels. -/
theorem holds_div {m l a : EReal} {L A : ℝ} (h : Holds m l a L A) (hL : 0 < L) : Ideal.div a l = ((A / L : ℝ) : EReal) := by
  obtain ⟨M, -, rfl, rfl⟩ := h
  have h2 : (0 : ℝ) < (2 : ℝ) ^ (-M) := Real.rpow_pos_of_pos (by norm_num) _
  rw [div_coe _ _ (mul_pos h2 hL).ne', mul_div_mul_left _ _ h2.ne']

/-- The plain softmax of a masked row, weighed by values. -/
theorem soft_eq {n : ℕ} (p : Fin n → Prop) [DecidablePred p] (t v : Fin n → ℝ) (R : EReal) (hR : ∃ r : ℝ, R = (r : EReal))
    (hp : ∃ j, p j) :
    ∑ j, (v j : EReal) * Ideal.div (Ideal.exp ((if p j then (t j : EReal) else ⊥) - R))
        (∑ i, Ideal.exp ((if p i then (t i : EReal) else ⊥) - R))
      = (((∑ j, v j * (if p j then Real.exp (t j) else 0)) / (∑ j, if p j then Real.exp (t j) else 0) : ℝ) : EReal) := by
  obtain ⟨r, rfl⟩ := hR
  have w : ∀ j, Ideal.exp ((if p j then (t j : EReal) else ⊥) - (r : EReal))
      = ((Real.exp (-r) * (if p j then Real.exp (t j) else 0) : ℝ) : EReal) := fun j => by
    by_cases h : p j
    · rw [if_pos h, if_pos h, ← EReal.coe_sub, exp_coe, sub_eq_neg_add, Real.exp_add]
    · rw [if_neg h, if_neg h, EReal.bot_sub, exp_bot, mul_zero, EReal.coe_zero]
  have hs : 0 < ∑ j, if p j then Real.exp (t j) else 0 := by
    obtain ⟨j, hj⟩ := hp
    refine Finset.sum_pos' (fun i _ => by by_cases h : p i <;> simp [h, (Real.exp_pos _).le]) ⟨j, Finset.mem_univ _, ?_⟩
    rw [if_pos hj]; exact Real.exp_pos _
  have hr : (0 : ℝ) < Real.exp (-r) := Real.exp_pos _
  have hd : ∑ i, Ideal.exp ((if p i then (t i : EReal) else ⊥) - (r : EReal))
      = ((Real.exp (-r) * ∑ j, (if p j then Real.exp (t j) else 0) : ℝ) : EReal) := by
    rw [Finset.mul_sum, coe_sum]; exact Finset.sum_congr rfl fun j _ => w j
  rw [hd, Finset.sum_div, coe_sum]
  refine Finset.sum_congr rfl fun j _ => ?_
  rw [w, div_coe _ _ (mul_pos hr hs).ne', mul_div_mul_left _ _ hr.ne', ← EReal.coe_mul, mul_div_assoc]

/-- The scale in powers of two: a score divided by the logarithm of two. -/
theorem two_rpow_div (t : ℝ) : (2 : ℝ) ^ (t / Real.log 2) = Real.exp t := by
  rw [Real.rpow_def_of_pos (by norm_num), mul_div_cancel₀ _ (Real.log_pos (by norm_num)).ne']

end Cert.KernelIdeal.Attn
-- ==== Proof.Vals.lean ====
/- The steps of the flash loop at one lane, on the extended reals. -/
module

public import proofs.«01_k».proof.Proof.Step
public import proofs.«01_k».proof.Proof.Soft
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic Idealize.ShloMosaic.Tactic

/-- A score of the block: a key's row with a lane's query. -/
def score (x0 : FVec Ideal S1x8x512x384 .bf16) (x1 : FVec Ideal S512x384 .bf16) (k : Fin 512) (j : Fin 4096) : EReal :=
  ∑ x : Fin 384, x1 (ix2 k x) * x0 (ix4 0 ⟨j.val / 512, by omega⟩ ⟨j.val % 512, by omega⟩ x)

/-- The lane's part of the query block's row, as the kernel computes it: zero for every lane of a single query block. -/
def lane0 (x : BitVec 32) : BitVec 32 :=
  IntOp.muli (Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 4096#32 0#32)) (Scalar.extui (Scalar.cmpi .slt 4096#32 0#32))))
      (IntOp.cmpi .ne (IntOp.remsi .vector x 4096#32) 0#32))
    (IntOp.subi (IntOp.divsi .vector x 4096#32) 1#32) (IntOp.divsi .vector x 4096#32)) 512#32

/-- The lane's row in its query block, as the kernel computes it. -/
def lane1 (x : BitVec 32) : BitVec 32 :=
  Scalar.select
    (IntOp.andi
      (IntOp.xori (IntOp.cmpi .slt (IntOp.remsi .vector x 512#32) 0#32) (Scalar.cmpi .slt 512#32 0#32))
      (IntOp.cmpi .ne (IntOp.remsi .vector x 512#32) 0#32))
    (IntOp.addi (IntOp.remsi .vector x 512#32) 512#32) (IntOp.remsi .vector x 512#32)

/-- The token tile of a lane is the first. -/
theorem lane0_eq : ∀ j : ℕ, j < 4096 → lane0 (BitVec.ofNat 32 j) = 0#32 := of_decide_eq_true (by sl_kernel_rfl)

/-- The token of a lane within its tile. -/
theorem lane1_eq : ∀ j : ℕ, j < 4096 → lane1 (BitVec.ofNat 32 j) = BitVec.ofNat 32 (j % 512) := of_decide_eq_true (by sl_kernel_rfl)

/-- The word of minus infinity. -/
theorem ofBits_neg_inf : Ideal.ofBits .f32 0xFF800000#32 = ⊥ := by
  simp [Ideal.ofBits, Ideal.ieee]

/-- The comparison of the key's row with the query's row, on words that hold them. -/
theorem mask_word (ki k qi r : ℕ) (h1 : ki < 16) (h2 : k < 512) (h3 : qi < 16) (h4 : r < 512) :
    IntOp.cmpi .sle (IntOp.addi (Scalar.muli (BitVec.ofNat 32 ki) 512#32) (BitVec.ofNat 32 k))
      (IntOp.addi (IntOp.addi (Scalar.muli (BitVec.ofNat 32 qi) 512#32) 0#32) (BitVec.ofNat 32 r))
      = BitVec.ofBool (decide (k + 512 * ki ≤ r + 512 * qi)) := by
  show BitVec.ofBool (BitVec.sle (BitVec.ofNat 32 ki * 512#32 + BitVec.ofNat 32 k) (BitVec.ofNat 32 qi * 512#32 + 0#32 + BitVec.ofNat 32 r)) = _
  have e1 : BitVec.ofNat 32 ki * 512#32 + BitVec.ofNat 32 k = BitVec.ofNat 32 (k + 512 * ki) := by
    apply BitVec.eq_of_toNat_eq; simp only [BitVec.toNat_add, BitVec.toNat_mul, BitVec.toNat_ofNat]; omega
  have e2 : BitVec.ofNat 32 qi * 512#32 + 0#32 + BitVec.ofNat 32 r = BitVec.ofNat 32 (r + 512 * qi) := by
    apply BitVec.eq_of_toNat_eq; simp only [BitVec.toNat_add, BitVec.toNat_mul, BitVec.toNat_ofNat]; omega
  have i1 : (BitVec.ofNat 32 (k + 512 * ki)).toInt = ((k + 512 * ki : ℕ) : ℤ) := by
    rw [BitVec.toInt_eq_toNat_of_lt (by rw [BitVec.toNat_ofNat]; omega), BitVec.toNat_ofNat]; congr 1; omega
  have i2 : (BitVec.ofNat 32 (r + 512 * qi)).toInt = ((r + 512 * qi : ℕ) : ℤ) := by
    rw [BitVec.toInt_eq_toNat_of_lt (by rw [BitVec.toNat_ofNat]; omega), BitVec.toNat_ofNat]; congr 1; omega
  rw [e1, e2, BitVec.sle, i1, i2]
  congr 1
  exact decide_eq_decide.2 Nat.cast_le

/-- A choice by a comparison's bit is a choice by the comparison. -/
theorem select_ofBool (p : Prop) [Decidable p] (x y : EReal) : Scalar.select (BitVec.ofBool (decide p)) x y = if p then x else y := by
  by_cases h : p
  · rw [decide_eq_true h, if_pos h]; rfl
  · rw [decide_eq_false h, if_neg h]; rfl

/-- The masked scores: a key past the query counts for nothing. -/
theorem masked_apply (x0 : FVec Ideal S1x8x512x384 .bf16) (x1 : FVec Ideal S512x384 .bf16) (ki qi : ℕ) (h1 : ki < 16) (h3 : qi < 16)
    (k : Fin 512) (j : Fin 4096) :
    k0_pay12 (F := Ideal) (k0_pay9 x1 x0) (k0_pay10 (F := Ideal) (BitVec.ofNat 32 ki)) iota1 (k0_pay11 (F := Ideal) (BitVec.ofNat 32 qi)) 512#32 0#1 (ix2 k j)
      = if k.val + 512 * ki ≤ j.val % 512 + 512 * qi then score x0 x1 k j else ⊥ := by
  pointwise [k0_pay12, k0_pay9, k0_pay10, k0_pay11, iota1]
  change Scalar.select (IntOp.cmpi .sle (IntOp.addi (Scalar.muli (BitVec.ofNat 32 ki) 512#32) (BitVec.ofNat 32 k.val))
      (IntOp.addi (IntOp.addi (Scalar.muli (BitVec.ofNat 32 qi) 512#32) (lane0 (BitVec.ofNat 32 j.val))) (lane1 (BitVec.ofNat 32 j.val))))
    (score x0 x1 k j) (Ideal.ofBits .f32 0xFF800000#32) = _
  rw [lane0_eq j.val j.isLt, lane1_eq j.val j.isLt, mask_word ki k.val qi (j.val % 512) h1 k.isLt h3 (by omega), ofBits_neg_inf, select_ofBool]

/-- The scores of a block that is not masked. -/
theorem plain_apply (x0 : FVec Ideal S1x8x512x384 .bf16) (x1 : FVec Ideal S512x384 .bf16) (k : Fin 512) (j : Fin 4096) :
    k0_pay20 (F := Ideal) x1 x0 (ix2 k j) = score x0 x1 k j := by
  pointwise [k0_pay20, score]

/-- A lane's step, from the scores the block gives it. -/
theorem lane_step (p : Fin 512 → Prop) [DecidablePred p] (σ v : Fin 512 → ℝ) (m l a m' c' l' a' : EReal) (S W V : Fin 512 → EReal) (L A : ℝ)
    (hS : ∀ k, S k = if p k then (σ k : EReal) else ⊥) (hV : ∀ k, V k = (v k : EReal))
    (hm : m' = max m (Finset.univ.fold max ⊥ S)) (hc : c' = Ideal.exp2 (m - m')) (hW : ∀ k, W k = Ideal.exp2 (S k - m'))
    (hl : l' = l * c' + ∑ k, W k) (ha : a' = a * c' + ∑ k, V k * W k)
    (hb : Before m l a L A) (hp : m ≠ ⊥ ∨ ∃ k, p k) :
    Holds m' l' a' (L + ∑ k, if p k then (2 : ℝ) ^ σ k else 0) (A + ∑ k, v k * (if p k then (2 : ℝ) ^ σ k else 0)) := by
  have hS' : S = fun k => if p k then (σ k : EReal) else ⊥ := funext hS
  have hV' : V = fun k => (v k : EReal) := funext hV
  have hW' : W = fun k => Ideal.exp2 ((if p k then (σ k : EReal) else ⊥) - m') := funext fun k => by rw [hW, hS]
  subst hV' hW' hl ha hc
  refine holds_step p σ v m l a m' L A hb ?_
  rw [hm, hS']
  refine max_real p σ m ?_ hp
  rcases hb with ⟨rfl, -⟩ | ⟨M, rfl, -⟩
  · exact bot_ne_top
  · exact EReal.coe_ne_top _

/-- A masked step at a lane. -/
theorem stepM_holds (x0 : FVec Ideal S1x8x512x384 .bf16) (x1 : FVec Ideal S512x384 .bf16) (x2 : FVec Ideal S256x512 .bf16) (s : St Ideal)
    (ki qi : ℕ) (h1 : ki < 16) (h3 : qi < 16) (d : Fin 256) (j : Fin 4096) (σ v : Fin 512 → ℝ) (L A : ℝ)
    (hσ : ∀ k, score x0 x1 k j = (σ k : EReal)) (hv : ∀ k, x2 (ix2 d k) = (v k : EReal))
    (hb : Before (s.m (ix2 0 j)) (s.l (ix2 0 j)) (s.a (ix2 d j)) L A)
    (hp : s.m (ix2 0 j) ≠ ⊥ ∨ ∃ k : Fin 512, k.val + 512 * ki ≤ j.val % 512 + 512 * qi) :
    Holds ((stepM (F := Ideal) (BitVec.ofNat 32 qi) (BitVec.ofNat 32 ki) x0 x1 x2 s).m (ix2 0 j))
      ((stepM (F := Ideal) (BitVec.ofNat 32 qi) (BitVec.ofNat 32 ki) x0 x1 x2 s).l (ix2 0 j))
      ((stepM (F := Ideal) (BitVec.ofNat 32 qi) (BitVec.ofNat 32 ki) x0 x1 x2 s).a (ix2 d j))
      (L + ∑ k : Fin 512, if k.val + 512 * ki ≤ j.val % 512 + 512 * qi then (2 : ℝ) ^ σ k else 0)
      (A + ∑ k : Fin 512, v k * (if k.val + 512 * ki ≤ j.val % 512 + 512 * qi then (2 : ℝ) ^ σ k else 0)) := by
  refine lane_step _ σ v (s.m (ix2 0 j)) (s.l (ix2 0 j)) (s.a (ix2 d j)) _
    (k0_pay14 (F := Ideal) (k0_pay9 x1 x0) (k0_pay10 (F := Ideal) (BitVec.ofNat 32 ki)) iota1 (k0_pay11 (F := Ideal) (BitVec.ofNat 32 qi)) 512#32 0#1 s.m (ix2 0 j)) _ _
    (fun k => k0_pay12 (F := Ideal) (k0_pay9 x1 x0) (k0_pay10 (F := Ideal) (BitVec.ofNat 32 ki)) iota1 (k0_pay11 (F := Ideal) (BitVec.ofNat 32 qi)) 512#32 0#1 (ix2 k j))
    (fun k => k0_pay15 (F := Ideal) (k0_pay9 x1 x0) (k0_pay10 (F := Ideal) (BitVec.ofNat 32 ki)) iota1 (k0_pay11 (F := Ideal) (BitVec.ofNat 32 qi)) 512#32 0#1 s.m (ix2 k j))
    (fun k => x2 (ix2 d k)) L A ?_ hv ?_ ?_ ?_ ?_ ?_ hb hp
  · intro k; rw [masked_apply x0 x1 ki qi h1 h3 k j, hσ]
  · unfold stepM; pointwise [k0_pay5, k0_pay13]; rw [ofBits_neg_inf]
  · unfold stepM; pointwise [k0_pay14, k0_pay5]; rfl
  · intro k; unfold stepM; pointwise [k0_pay15, k0_pay5]; rfl
  · unfold stepM; pointwise [k0_pay16]
  · unfold stepM; pointwise [k0_pay4, k0_pay17, k0_pay18, k0_pay19]

/-- A step over keys wholly before the queries, at a lane. -/
theorem stepP_holds (x0 : FVec Ideal S1x8x512x384 .bf16) (x1 : FVec Ideal S512x384 .bf16) (x2 : FVec Ideal S256x512 .bf16) (s : St Ideal)
    (p : Fin 512 → Prop) [DecidablePred p] (hp : ∀ k, p k) (d : Fin 256) (j : Fin 4096) (σ v : Fin 512 → ℝ) (L A : ℝ)
    (hσ : ∀ k, score x0 x1 k j = (σ k : EReal)) (hv : ∀ k, x2 (ix2 d k) = (v k : EReal))
    (hb : Before (s.m (ix2 0 j)) (s.l (ix2 0 j)) (s.a (ix2 d j)) L A) :
    Holds ((stepP (F := Ideal) x0 x1 x2 s).m (ix2 0 j)) ((stepP (F := Ideal) x0 x1 x2 s).l (ix2 0 j)) ((stepP (F := Ideal) x0 x1 x2 s).a (ix2 d j))
      (L + ∑ k : Fin 512, if p k then (2 : ℝ) ^ σ k else 0)
      (A + ∑ k : Fin 512, v k * (if p k then (2 : ℝ) ^ σ k else 0)) := by
  refine lane_step p σ v (s.m (ix2 0 j)) (s.l (ix2 0 j)) (s.a (ix2 d j)) _
    (k0_pay22 (F := Ideal) x1 x0 s.m (ix2 0 j)) _ _
    (fun k => k0_pay20 (F := Ideal) x1 x0 (ix2 k j))
    (fun k => k0_pay23 (F := Ideal) x1 x0 s.m (ix2 k j))
    (fun k => x2 (ix2 d k)) L A ?_ hv ?_ ?_ ?_ ?_ ?_ hb (Or.inr ⟨0, hp 0⟩)
  · intro k; rw [plain_apply, hσ, if_pos (hp k)]
  · unfold stepP; pointwise [k0_pay6, k0_pay21]; rw [ofBits_neg_inf]
  · unfold stepP; pointwise [k0_pay22, k0_pay6]; rfl
  · intro k; unfold stepP; pointwise [k0_pay23, k0_pay6]; rfl
  · unfold stepP; pointwise [k0_pay24]
  · unfold stepP; pointwise [k0_pay25]

/-- A lane before its first block. -/
theorem init_before (d : Fin 256) (j : Fin 4096) :
    Before ((init (F := Ideal)).m (ix2 0 j)) ((init (F := Ideal)).l (ix2 0 j)) ((init (F := Ideal)).a (ix2 d j)) 0 0 := by
  refine Or.inl ⟨?_, ?_, ?_, rfl, rfl⟩
  · unfold init; pointwise [k0_pay1]; exact ofBits_neg_inf
  · unfold init; pointwise [k0_pay2]
  · unfold init; pointwise [k0_pay3]

/-- The stored block: each lane's sum over its denominator. -/
theorem fin_apply (s : St Ideal) (a : Fin 1) (h : Fin 8) (r : Fin 512) (d : Fin 256) :
    fin s (ix4 a h r d) = Ideal.div (s.a (ix2 d ⟨h.val * 512 + r.val, by omega⟩)) (s.l (ix2 0 ⟨h.val * 512 + r.val, by omega⟩)) := by
  unfold fin
  pointwise [k0_pay26]
  rw [show headA s.a h (ix2 d r) = s.a (ix2 d ⟨h.val * 512 + r.val, by omega⟩) from congrArg s.a (eq_ix2 _),
    show headL s.l h (ix2 0 r) = s.l (ix2 0 ⟨h.val * 512 + r.val, by omega⟩) from congrArg s.l (eq_ix2 _)]

end Cert.KernelIdeal.Attn
-- ==== Proof.Target.lean ====
/- The attention over the reals: its scores and its result at an element. -/
module

public import proofs.«01_k».proof.Proof.Soft
public import Idealize.ShloMosaic.Lib.Pointwise

@[expose] public section

set_option maxRecDepth 16384

noncomputable section

namespace Cert.KernelIdeal.Attn

open Idealize.ShloMosaic

/-- The four arguments as reals: the queries' two parts, the compressed keys and the rotated keys. -/
structure Reals where
  q : (⟨4, ![4, 8192, 8, 256]⟩ : Shape).Idx → ℝ
  r : (⟨4, ![4, 8192, 8, 64]⟩ : Shape).Idx → ℝ
  k : (⟨3, ![4, 8192, 256]⟩ : Shape).Idx → ℝ
  e : (⟨3, ![4, 8192, 64]⟩ : Shape).Idx → ℝ

variable (X : Reals)

/-- A scaled score. -/
def tsc (b : Fin 4) (tok : Fin 8192) (h : Fin 8) (key : Fin 8192) : ℝ :=
  (∑ x : Fin 256, X.k (ix3 b key x) * X.q (ix4 b tok h x) + ∑ x : Fin 64, X.e (ix3 b key x) * X.r (ix4 b tok h x)) * (Real.sqrt 192)⁻¹

/-- The attention at an element: the values' mean over the visible keys, weighed by the exponentials of the scores. -/
def out (b : Fin 4) (tok : Fin 8192) (h : Fin 8) (d : Fin 256) : ℝ :=
  (∑ j : Fin 8192, X.k (ix3 b j d) * (if j.val ≤ tok.val then Real.exp (tsc X b tok h j) else 0))
    / (∑ j : Fin 8192, if j.val ≤ tok.val then Real.exp (tsc X b tok h j) else 0)

/-- A key's weight, and its weighed value, by the key's number. -/
def wt (b : Fin 4) (tok : Fin 8192) (h : Fin 8) (j : ℕ) : ℝ :=
  if hj : j < 8192 then (if j ≤ tok.val then Real.exp (tsc X b tok h ⟨j, hj⟩) else 0) else 0
def wv (b : Fin 4) (tok : Fin 8192) (h : Fin 8) (d : Fin 256) (j : ℕ) : ℝ :=
  if hj : j < 8192 then X.k (ix3 b ⟨j, hj⟩ d) * (if j ≤ tok.val then Real.exp (tsc X b tok h ⟨j, hj⟩) else 0) else 0

/-- The sums of the first keys. -/
def sumL (b : Fin 4) (tok : Fin 8192) (h : Fin 8) (n : ℕ) : ℝ := ∑ j ∈ Finset.range n, wt X b tok h j
def sumA (b : Fin 4) (tok : Fin 8192) (h : Fin 8) (d : Fin 256) (n : ℕ) : ℝ := ∑ j ∈ Finset.range n, wv X b tok h d j

/-- No keys give no weight. -/
theorem sumL_zero (b : Fin 4) (tok : Fin 8192) (h : Fin 8) : sumL X b tok h 0 = 0 := Finset.sum_range_zero _
/-- No keys give no value. -/
theorem sumA_zero (b : Fin 4) (tok : Fin 8192) (h : Fin 8) (d : Fin 256) : sumA X b tok h d 0 = 0 := Finset.sum_range_zero _

/-- A block more of keys. -/
theorem sumL_block (b : Fin 4) (tok : Fin 8192) (h : Fin 8) (n r q : ℕ) (hn : n < 16) (ht : tok.val = r + 512 * q) :
    sumL X b tok h (512 * (n + 1)) = sumL X b tok h (512 * n)
      + ∑ k : Fin 512, if k.val + 512 * n ≤ r + 512 * q then (2 : ℝ) ^ (tsc X b tok h ⟨k.val + 512 * n, by omega⟩ / Real.log 2) else 0 := by
  unfold sumL
  rw [Nat.mul_add, Nat.mul_one, Finset.sum_range_add, Finset.sum_range (n := 512)]
  congr 1
  refine Finset.sum_congr rfl fun k _ => ?_
  have e : 512 * n + k.val = k.val + 512 * n := Nat.add_comm _ _
  unfold wt
  rw [e, dif_pos (by omega), two_rpow_div, ht]

/-- A block more of keys, of the weighed values. -/
theorem sumA_block (b : Fin 4) (tok : Fin 8192) (h : Fin 8) (d : Fin 256) (n r q : ℕ) (hn : n < 16) (ht : tok.val = r + 512 * q) :
    sumA X b tok h d (512 * (n + 1)) = sumA X b tok h d (512 * n)
      + ∑ k : Fin 512, X.k (ix3 b ⟨k.val + 512 * n, by omega⟩ d)
          * (if k.val + 512 * n ≤ r + 512 * q then (2 : ℝ) ^ (tsc X b tok h ⟨k.val + 512 * n, by omega⟩ / Real.log 2) else 0) := by
  unfold sumA
  rw [Nat.mul_add, Nat.mul_one, Finset.sum_range_add, Finset.sum_range (n := 512)]
  congr 1
  refine Finset.sum_congr rfl fun k _ => ?_
  have e : 512 * n + k.val = k.val + 512 * n := Nat.add_comm _ _
  unfold wv
  rw [e, dif_pos (by omega), two_rpow_div, ht]

/-- Past the query the sums no longer grow. -/
theorem sumL_full (b : Fin 4) (tok : Fin 8192) (h : Fin 8) (n : ℕ) (hn : tok.val < n) (hn' : n ≤ 8192) :
    sumL X b tok h n = ∑ j : Fin 8192, if j.val ≤ tok.val then Real.exp (tsc X b tok h j) else 0 := by
  unfold sumL
  rw [Finset.sum_subset (Finset.range_subset_range.2 hn') (fun j hj hj' => ?_), Finset.sum_range]
  · exact Finset.sum_congr rfl fun j _ => by unfold wt; rw [dif_pos j.isLt]
  · rw [Finset.mem_range] at hj hj'
    unfold wt; rw [dif_pos hj, if_neg (by omega)]

/-- Past the query the sums of weighed values no longer grow. -/
theorem sumA_full (b : Fin 4) (tok : Fin 8192) (h : Fin 8) (d : Fin 256) (n : ℕ) (hn : tok.val < n) (hn' : n ≤ 8192) :
    sumA X b tok h d n = ∑ j : Fin 8192, X.k (ix3 b j d) * (if j.val ≤ tok.val then Real.exp (tsc X b tok h j) else 0) := by
  unfold sumA
  rw [Finset.sum_subset (Finset.range_subset_range.2 hn') (fun j hj hj' => ?_), Finset.sum_range]
  · exact Finset.sum_congr rfl fun j _ => by unfold wv; rw [dif_pos j.isLt]
  · rw [Finset.mem_range] at hj hj'
    unfold wv; rw [dif_pos hj, if_neg (by omega), mul_zero]

/-- A query sees itself, so its weights do not add up to nothing. -/
theorem den_pos (b : Fin 4) (tok : Fin 8192) (h : Fin 8) : 0 < ∑ j : Fin 8192, if j.val ≤ tok.val then Real.exp (tsc X b tok h j) else 0 := by
  refine Finset.sum_pos' (fun i _ => by split <;> simp [(Real.exp_pos _).le]) ⟨tok, Finset.mem_univ _, ?_⟩
  rw [if_pos (le_refl _)]; exact Real.exp_pos _

/-- The word of two. -/
theorem ofBits_two : Ideal.ofBits .f32 0x40000000#32 = ((2 : ℝ) : EReal) := by
  simp [Ideal.ofBits, Ideal.ieee, -EReal.coe_mul]; norm_num

/-- The word of 192. -/
theorem ofBits_192 : Ideal.ofBits .f32 0x43400000#32 = ((192 : ℝ) : EReal) := by
  simp [Ideal.ofBits, Ideal.ieee, -EReal.coe_mul]; norm_num

/-- The scale of a score. -/
theorem rsqrt_192 : Ideal.rsqrt (Ideal.ofBits .f32 0x43400000#32) = (((Real.sqrt 192)⁻¹ : ℝ) : EReal) := by
  rw [ofBits_192]
  show (if (192 : ℝ) < 0 then (⊥ : EReal) else if (192 : ℝ) = 0 then ⊤ else ((Real.sqrt 192)⁻¹ : ℝ)) = _
  rw [if_neg (by norm_num), if_neg (by norm_num)]

/-- The queries' factor: the scale over the logarithm of two. -/
theorem factor_eq : Ideal.div (Ideal.rsqrt (Ideal.ofBits .f32 0x43400000#32)) (Ideal.log (Ideal.ofBits .f32 0x40000000#32))
    = (((Real.sqrt 192)⁻¹ / Real.log 2 : ℝ) : EReal) := by
  rw [rsqrt_192, ofBits_two]
  have e : Ideal.log ((2 : ℝ) : EReal) = ((Real.log 2 : ℝ) : EReal) := by
    show (if (2 : ℝ) ≤ 0 then (⊥ : EReal) else (Real.log 2 : EReal)) = _
    rw [if_neg (by norm_num)]
  rw [e, div_coe _ _ (Real.log_pos (by norm_num)).ne']

/-- A sum over a padded axis: its two parts and the padding, which adds nothing. -/
theorem sum_padded (f : Fin 384 → ℝ) (g : Fin 256 → ℝ) (h : Fin 64 → ℝ) (hf : ∀ x : Fin 256, f ⟨x.val, by omega⟩ = g x)
    (hh : ∀ x : Fin 64, f ⟨256 + x.val, by omega⟩ = h x) (hz : ∀ x : Fin 64, f ⟨320 + x.val, by omega⟩ = 0) :
    ∑ x, f x = ∑ x, g x + ∑ x, h x := by
  rw [Fin.sum_univ_two_halves 256 128 rfl f, Fin.sum_univ_two_halves 64 64 rfl]
  congr 1
  · exact Finset.sum_congr rfl fun x _ => hf x
  · rw [← add_zero (∑ x, h x)]
    congr 1
    · exact Finset.sum_congr rfl fun x _ => hh x
    · refine Finset.sum_eq_zero fun x _ => ?_
      rw [← hz x]; congr 1; apply Fin.ext; show 256 + (64 + x.val) = 320 + x.val; omega

end Cert.KernelIdeal.Attn
-- ==== Proof.Reads.lean ====
/- What the blocks of a point hold of the arguments. -/
module

public import proofs.«01_k».proof.Proof.Body
public import proofs.«01_k».proof.Proof.Points
public import proofs.«01_k».proof.Proof.Vals
public import proofs.«01_k».proof.Proof.Target
public import Idealize.ShloMosaic.Lib.StableHlo.ReadAt
public import Idealize.ShloMosaic.Lib.Pipeline.ValueKit
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.SL.Sem

variable (m : (ℓ : Loc nD τ sig) → Buf (Elt Ideal) ℓ) (c : Dev nD)

/-- The four arguments. -/
abbrev aq : FVec Ideal S4x8192x8x256 .f32 := m ((c.tc : Thread nD τ).loc main_arg0)
abbrev ar : FVec Ideal S4x8192x8x64 .f32 := m ((c.tc : Thread nD τ).loc main_arg1)
abbrev ak : FVec Ideal S4x8192x256 .f32 := m ((c.tc : Thread nD τ).loc main_arg2)
abbrev ae : FVec Ideal S4x8192x64 .f32 := m ((c.tc : Thread nD τ).loc main_arg3)

/-- The values' array: the compressed keys, transposed. -/
theorem v16_apply (d : Fin 256) (n : Fin 32768) :
    (V0 m c (Proc.devRef .tc main_v16) : FVec Ideal S256x32768 .bf16) (ix2 d n) = ak m c (ix3 ⟨n.val / 8192, by omega⟩ ⟨n.val % 8192, by omega⟩ d) := by
  unfold V0; rw [List.flatten_singleton]; after_reads_simp
  pointwise

/-- The keys' array: the compressed keys, the rotated keys, then zeros. -/
theorem v13_apply (n : Fin 32768) (x : Fin 384) :
    (V0 m c (Proc.devRef .tc main_v13) : FVec Ideal S32768x384 .bf16) (ix2 n x)
      = (if h : x.val < 256 then ak m c (ix3 ⟨n.val / 8192, by omega⟩ ⟨n.val % 8192, by omega⟩ ⟨x.val, h⟩)
        else if h' : n.val / 8192 < 4 ∧ n.val % 8192 < 8192 ∧ x.val - 256 < 64 then ae m c (ix3 ⟨n.val / 8192, by omega⟩ ⟨n.val % 8192, by omega⟩ ⟨x.val - 256, h'.2.2⟩)
        else (0 : EReal)) := by
  unfold V0; rw [List.flatten_singleton]; after_reads_simp
  pointwise
  after_reads_simp
  pointwise

/-- The queries' array: the queries' two parts, then zeros, scaled. -/
theorem v9_apply (T : Fin 64) (h : Fin 8) (r : Fin 512) (x : Fin 384)  :
    (V0 m c (Proc.devRef .tc main_v9) : FVec Ideal S64x8x512x384 .bf16) (ix4 T h r x)
      = (if h1 : x.val < 256 then aq m c (ix4 ⟨T.val / 16, by omega⟩ ⟨T.val % 16 * 512 + r.val, by omega⟩ h ⟨x.val, h1⟩)
        else if h' : T.val / 16 < 4 ∧ T.val % 16 * 512 + r.val < 8192 ∧ x.val - 256 < 64 then ar m c (ix4 ⟨T.val / 16, by omega⟩ ⟨T.val % 16 * 512 + r.val, by omega⟩ h ⟨x.val - 256, h'.2.2⟩)
        else (0 : EReal)) * (((Real.sqrt 192)⁻¹ / Real.log 2 : ℝ) : EReal) := by
  unfold V0; rw [List.flatten_singleton]; after_reads_simp
  pointwise
  after_reads_simp
  pointwise
  exact congrArg₂ (fun x y : EReal => x * y) rfl factor_eq

/-- A point's block of values. -/
theorem bv_apply (t : Fin (cfgA (F := Ideal)).N) (d : Fin 256) (k : Fin 512) (n : Fin 32768) (hn : n.val = (t.val / 136 * 16 + ki t) * 512 + k.val) :
    bv m c t (ix2 d k) = (V0 m c (Proc.devRef .tc main_v16) : FVec Ideal S256x32768 .bf16) (ix2 d n) := by
  blk_simp [bv, iblk]
  refine congrArg (V0 m c (Proc.devRef .tc main_v16)) (funext fun a => Fin.ext ?_)
  match a with
  | ⟨0, _⟩ => blk_simp [(place t).2.2.1]
  | ⟨1, _⟩ => blk_simp [(place t).2.2.1]; exact hn.symm

/-- A point's block of keys. -/
theorem bk_apply (t : Fin (cfgA (F := Ideal)).N) (k : Fin 512) (x : Fin 384) (n : Fin 32768) (hn : n.val = (t.val / 136 * 16 + ki t) * 512 + k.val) :
    bk m c t (ix2 k x) = (V0 m c (Proc.devRef .tc main_v13) : FVec Ideal S32768x384 .bf16) (ix2 n x) := by
  blk_simp [bk, iblk]
  refine congrArg (V0 m c (Proc.devRef .tc main_v13)) (funext fun a => Fin.ext ?_)
  match a with
  | ⟨0, _⟩ => blk_simp [(place t).2.1]; exact hn.symm
  | ⟨1, _⟩ => blk_simp [(place t).2.1]

end Cert.KernelIdeal.Attn
-- ==== Proof.ReadQ.lean ====
/- What a point's block of queries holds. -/
module

public import proofs.«01_k».proof.Proof.Body
public import proofs.«01_k».proof.Proof.Points
public import Idealize.ShloMosaic.Lib.StableHlo.ReadAt
public import Idealize.ShloMosaic.Lib.Pipeline.ValueKit
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.SL.Sem

variable (m : (ℓ : Loc nD τ sig) → Buf (Elt Ideal) ℓ) (c : Dev nD)

/-- A point's block of queries. -/
theorem bq_apply (t : Fin (cfgA (F := Ideal)).N) (h : Fin 8) (r : Fin 512) (x : Fin 384) (T : Fin 64) (B : ℕ) (z : Fin 1)
    (hi : ((cfgA (F := Ideal)).win (0 : Fin 4)).index t = ![B, 0, 0, 0]) (hT : T.val = B) :
    bq m c t (ix4 z h r x) = (V0 m c (Proc.devRef .tc main_v9) : FVec Ideal S64x8x512x384 .bf16) (ix4 T h r x) := by
  blk_simp [bq, iblk]
  refine congrArg (V0 m c (Proc.devRef .tc main_v9)) (funext fun a => Fin.ext ?_)
  match a with
  | ⟨0, _⟩ => blk_simp [hi]; exact hT.symm
  | ⟨1, _⟩ => blk_simp [hi]
  | ⟨2, _⟩ => blk_simp [hi]
  | ⟨3, _⟩ => blk_simp [hi]

end Cert.KernelIdeal.Attn
-- ==== Proof.Blocks.lean ====
/- The blocks of a point, and its scores, as reals. -/
module

public import proofs.«01_k».proof.Proof.Reads
public import proofs.«01_k».proof.Proof.ReadQ
public import proofs.«01_k».proof.Proof.Points
public import proofs.«01_k».proof.Proof.Vals
public import proofs.«01_k».proof.Proof.Target
public import Idealize.ShloMosaic.Lib.StableHlo.ReadAt
public import Idealize.ShloMosaic.Lib.Pipeline.ValueKit
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.SL.Sem

variable (m : (ℓ : Loc nD τ sig) → Buf (Elt Ideal) ℓ) (c : Dev nD)

/-- The arguments are real. -/
structure AreReals (X : Reals) : Prop where
  q : ∀ i, aq m c i = ((X.q i : ℝ) : EReal)
  r : ∀ i, ar m c i = ((X.r i : ℝ) : EReal)
  k : ∀ i, ak m c i = ((X.k i : ℝ) : EReal)
  e : ∀ i, ae m c i = ((X.e i : ℝ) : EReal)

variable {m c} {X : Reals} (hX : AreReals m c X)
include hX

/-- A value of a point's block, as a real. -/
theorem bv_real (t : Fin (cfgA (F := Ideal)).N) (d : Fin 256) (k : Fin 512) (b : Fin 4) (key : Fin 8192) (hb : b.val = t.val / 136)
    (hk : key.val = k.val + 512 * ki t) : bv m c t (ix2 d k) = ((X.k (ix3 b key d) : ℝ) : EReal) := by
  have h1 := b.isLt
  have h2 := key.isLt
  rw [bv_apply m c t d k ⟨b.val * 8192 + key.val, by omega⟩ (by show b.val * 8192 + key.val = _; omega), v16_apply, hX.k]
  congr 3
  · apply Fin.ext; show (b.val * 8192 + key.val) / 8192 = b.val; omega
  · apply Fin.ext; show (b.val * 8192 + key.val) % 8192 = key.val; omega

/-- The keys' row and the queries' row over the padded axis, as reals. -/
theorem bk_real (t : Fin (cfgA (F := Ideal)).N) (k : Fin 512) (x : Fin 384) (b : Fin 4) (key : Fin 8192) (hb : b.val = t.val / 136)
    (hk : key.val = k.val + 512 * ki t) : bk m c t (ix2 k x)
      = ((if h : x.val < 256 then X.k (ix3 b key ⟨x.val, h⟩) else if h : x.val - 256 < 64 then X.e (ix3 b key ⟨x.val - 256, h⟩) else 0 : ℝ) : EReal) := by
  have h1 := b.isLt
  have h2 := key.isLt
  have e1 : (b.val * 8192 + key.val) / 8192 = b.val := by omega
  have e2 : (b.val * 8192 + key.val) % 8192 = key.val := by omega
  rw [bk_apply m c t k x ⟨b.val * 8192 + key.val, by omega⟩ (by show b.val * 8192 + key.val = _; omega), v13_apply]
  by_cases h : x.val < 256
  · rw [dif_pos h, dif_pos h, hX.k]
    congr 3
    · exact Fin.ext e1
    · exact Fin.ext e2
  · rw [dif_neg h, dif_neg h]
    by_cases h' : x.val - 256 < 64
    · rw [dif_pos h', dif_pos ⟨by show (b.val * 8192 + key.val) / 8192 < 4; omega, by show (b.val * 8192 + key.val) % 8192 < 8192; omega, h'⟩, hX.e]
      congr 3
      · exact Fin.ext e1
      · exact Fin.ext e2
    · rw [dif_neg h', dif_neg (fun hh => h' hh.2.2), EReal.coe_zero]

/-- A query block over real arguments: the packed queries, scaled, at the block's tokens. -/
theorem bq_real (t : Fin (cfgA (F := Ideal)).N) (h : Fin 8) (r : Fin 512) (x : Fin 384) (b : Fin 4) (tok : Fin 8192) (hb : b.val = t.val / 136)
    (ht : tok.val = r.val + 512 * qi t) : bq m c t (ix4 0 h r x)
      = (((if h1 : x.val < 256 then X.q (ix4 b tok h ⟨x.val, h1⟩) else if h1 : x.val - 256 < 64 then X.r (ix4 b tok h ⟨x.val - 256, h1⟩) else 0)
          * ((Real.sqrt 192)⁻¹ / Real.log 2) : ℝ) : EReal) := by
  have h1 := b.isLt
  have h2 := tok.isLt
  have h3 := r.isLt
  have h4 : qi t < 16 := (words t).1
  have e1 : (b.val * 16 + qi t) / 16 = b.val := by omega
  have e2 : (b.val * 16 + qi t) % 16 * 512 + r.val = tok.val := by omega
  rw [bq_apply m c t h r x ⟨b.val * 16 + qi t, by omega⟩ _ 0 (place t).1 (by rw [← hb]), v9_apply, EReal.coe_mul]
  congr 1
  by_cases hx : x.val < 256
  · rw [dif_pos hx, dif_pos hx, hX.q]
    congr 3
    · exact Fin.ext e1
    · exact Fin.ext e2
  · rw [dif_neg hx, dif_neg hx]
    by_cases h' : x.val - 256 < 64
    · rw [dif_pos h', dif_pos ⟨by show (b.val * 16 + qi t) / 16 < 4; omega, by show (b.val * 16 + qi t) % 16 * 512 + r.val < 8192; omega, h'⟩, hX.r]
      congr 3
      · exact Fin.ext e1
      · exact Fin.ext e2
    · rw [dif_neg h', dif_neg (fun hh => h' hh.2.2), EReal.coe_zero]

/-- A point's score, as a real. -/
theorem score_real (t : Fin (cfgA (F := Ideal)).N) (k : Fin 512) (j : Fin 4096) (b : Fin 4) (tok key : Fin 8192) (h : Fin 8) (hb : b.val = t.val / 136)
    (ht : tok.val = j.val % 512 + 512 * qi t) (hk : key.val = k.val + 512 * ki t) (hh : h.val = j.val / 512) :
    score (bq m c t) (bk m c t) k j = ((tsc X b tok h key / Real.log 2 : ℝ) : EReal) := by
  have e : ∀ x : Fin 384, bk m c t (ix2 k x) * bq m c t (ix4 0 ⟨j.val / 512, by omega⟩ ⟨j.val % 512, by omega⟩ x)
      = (((if h : x.val < 256 then X.k (ix3 b key ⟨x.val, h⟩) else if h : x.val - 256 < 64 then X.e (ix3 b key ⟨x.val - 256, h⟩) else 0)
          * ((if h1 : x.val < 256 then X.q (ix4 b tok h ⟨x.val, h1⟩) else if h1 : x.val - 256 < 64 then X.r (ix4 b tok h ⟨x.val - 256, h1⟩) else 0)
          * ((Real.sqrt 192)⁻¹ / Real.log 2)) : ℝ) : EReal) := fun x => by
    rw [bk_real hX t k x b key hb hk, bq_real hX t ⟨j.val / 512, by omega⟩ ⟨j.val % 512, by omega⟩ x b tok hb ht, ← EReal.coe_mul,
      show (⟨j.val / 512, by omega⟩ : Fin 8) = h from Fin.ext hh.symm]
  unfold score
  rw [Finset.sum_congr rfl fun x _ => e x, ← coe_sum]
  congr 1
  rw [sum_padded _ (fun x => X.k (ix3 b key x) * X.q (ix4 b tok h x) * ((Real.sqrt 192)⁻¹ / Real.log 2))
    (fun x => X.e (ix3 b key x) * X.r (ix4 b tok h x) * ((Real.sqrt 192)⁻¹ / Real.log 2))]
  · unfold tsc
    rw [← Finset.sum_mul, ← Finset.sum_mul, ← add_mul]; ring
  · intro x
    have := x.isLt
    rw [dif_pos (show x.val < 256 from x.isLt), dif_pos (show x.val < 256 from x.isLt)]; ring
  · intro x
    have h1 : ¬ (256 + x.val < 256) := by omega
    have h2 : 256 + x.val - 256 < 64 := by omega
    have h3 : (⟨256 + x.val - 256, h2⟩ : Fin 64) = x := Fin.ext (by show 256 + x.val - 256 = x.val; omega)
    rw [dif_neg h1, dif_neg h1, dif_pos h2, dif_pos h2, h3]; ring
  · intro x
    have h1 : ¬ (320 + x.val < 256) := by omega
    have h2 : ¬ (320 + x.val - 256 < 64) := by omega
    rw [dif_neg h1, dif_neg h2, zero_mul]

end Cert.KernelIdeal.Attn
-- ==== Proof.ReadO.lean ====
/- Where a point's block of the output lies. -/
module

public import proofs.«01_k».proof.Proof.Body
public import proofs.«01_k».proof.Proof.Points
public import Idealize.ShloMosaic.Lib.StableHlo.ReadAt
public import Idealize.ShloMosaic.Lib.Pipeline.ValueKit
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.SL.Sem

/-- The place of a block's element in the output array. -/
theorem emb3 (t : Fin (cfgA (F := Ideal)).N) (B : ℕ) (hi : ((cfgA (F := Ideal)).win (3 : Fin 4)).index t = ![B, 0, 0, 0])
    (y : (((cfgA (F := Ideal)).win (3 : Fin 4)).xblock (crd t)).Idx) (z : Fin 1) (h : Fin 8) (r : Fin 512) (d : Fin 256)
    (hy : y = ix4 z h r d) (T : Fin 64) (hT : T.val = B) :
    (((cfgA (F := Ideal)).win (3 : Fin 4)).blk t).view.emb y = (ix4 T h r d : S64x8x512x256.Idx) := by
  subst hy
  refine funext fun a => Fin.ext ?_
  match a with
  | ⟨0, _⟩ => blk_simp [hi]; exact hT.symm
  | ⟨1, _⟩ => blk_simp [hi]
  | ⟨2, _⟩ => blk_simp [hi]
  | ⟨3, _⟩ => blk_simp [hi]

end Cert.KernelIdeal.Attn
-- ==== Proof.Value.lean ====
/- What the flash loop leaves in the result, at each element. -/
module

public import proofs.«01_k».proof.Proof.Blocks
public import proofs.«01_k».proof.Proof.Run
public import proofs.«01_k».proof.Proof.ReadO

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.SL.Sem

variable {m : (ℓ : Loc nD τ sig) → Buf (Elt Ideal) ℓ} {c : Dev nD} {X : Reals} (hX : AreReals m c X)
include hX

/-- A point's step at a lane: the lane gains the weights and the weighted values of the point's key block. -/
theorem step_holds (t : Fin (cfgA (F := Ideal)).N) (s : St Ideal) (d : Fin 256) (j : Fin 4096) (b : Fin 4) (tok : Fin 8192) (h : Fin 8)
    (q k : ℕ) (hq : qi t = q) (hk : ki t = k)
    (hb : b.val = t.val / 136) (ht : tok.val = j.val % 512 + 512 * q) (hh : h.val = j.val / 512)
    (hs : Before (s.m (ix2 0 j)) (s.l (ix2 0 j)) (s.a (ix2 d j)) (sumL X b tok h (512 * k)) (sumA X b tok h d (512 * k)))
    (hz : k = 0 ∨ s.m (ix2 0 j) ≠ ⊥)
    (hst : step m c t s = if c1 (F := Ideal) (crd t) = 1#1 then stepM (w0 (crd t)) (w1 (crd t)) (bq m c t) (bk m c t) (bv m c t) s
      else stepP (bq m c t) (bk m c t) (bv m c t) s) :
    Holds ((step m c t s).m (ix2 0 j)) ((step m c t s).l (ix2 0 j)) ((step m c t s).a (ix2 d j))
      (sumL X b tok h (512 * (k + 1))) (sumA X b tok h d (512 * (k + 1))) := by
  obtain ⟨w16, wle, -, w1', -⟩ := words t
  rw [hq] at w16 wle w1'
  rw [hk] at wle w1'
  have hσ : ∀ x : Fin 512, score (bq m c t) (bk m c t) x j = ((tsc X b tok h ⟨x.val + 512 * k, by omega⟩ / Real.log 2 : ℝ) : EReal) := fun x =>
    score_real hX t x j b tok ⟨x.val + 512 * k, by omega⟩ h hb (by rw [hq]; exact ht) (by rw [hk]) hh
  have hv : ∀ x : Fin 512, bv m c t (ix2 d x) = ((X.k (ix3 b ⟨x.val + 512 * k, by omega⟩ d) : ℝ) : EReal) := fun x =>
    bv_real hX t d x b ⟨x.val + 512 * k, by omega⟩ hb (by rw [hk])
  rw [hst, sumL_block X b tok h k (j.val % 512) q (by omega) ht, sumA_block X b tok h d k (j.val % 512) q (by omega) ht]
  by_cases h1 : c1 (F := Ideal) (crd t) = 1#1
  · rw [if_pos h1]
    have e0 : w0 (F := Ideal) (crd t) = BitVec.ofNat 32 q := by rw [← hq]; exact BitVec.eq_of_toNat_eq (by rw [BitVec.toNat_ofNat]; exact (Nat.mod_eq_of_lt (BitVec.isLt _)).symm)
    have e1 : w1 (F := Ideal) (crd t) = BitVec.ofNat 32 k := by rw [← hk]; exact BitVec.eq_of_toNat_eq (by rw [BitVec.toNat_ofNat]; exact (Nat.mod_eq_of_lt (BitVec.isLt _)).symm)
    rw [e0, e1]
    refine stepM_holds (bq m c t) (bk m c t) (bv m c t) s k q (by omega) w16 d j _ _ _ _ hσ hv hs ?_
    rcases hz with hz | hz
    · exact Or.inr ⟨0, by rw [hz]; show 0 + 512 * 0 ≤ _; omega⟩
    · exact Or.inl hz
  · rw [if_neg h1]
    have hlt : k < q := lt_of_le_of_ne wle (fun e => h1 (w1'.2 e))
    exact stepP_holds (bq m c t) (bk m c t) (bv m c t) s (fun x => x.val + 512 * k ≤ j.val % 512 + 512 * q) (fun x => by have := x.isLt; omega) d j _ _ _ _ hσ hv hs

/-- After each point, each lane holds the sums of the key blocks up to the point's. -/
theorem st_holds (q : ℕ) (d : Fin 256) (j : Fin 4096) (b : Fin 4) (tok : Fin 8192) (h : Fin 8)
    (ht : tok.val = j.val % 512 + 512 * q) (hh : h.val = j.val / 512) :
    ∀ (k : ℕ) (t : Fin (cfgA (F := Ideal)).N) (hq : qi t = q) (hk : ki t = k) (hb : b.val = t.val / 136),
    Holds ((st m c (t.val + 1)).m (ix2 0 j)) ((st m c (t.val + 1)).l (ix2 0 j)) ((st m c (t.val + 1)).a (ix2 d j))
      (sumL X b tok h (512 * (k + 1))) (sumA X b tok h d (512 * (k + 1))) := by
  intro k
  induction k with
  | zero =>
    intro t hq hk hb
    have h0 : c0 (F := Ideal) (crd t) = 1#1 := (words t).2.2.1.2 hk
    have e : st m c (t.val + 1) = step m c t init := by
      rw [st_succ]; unfold step start; rw [if_pos h0, if_pos h0]
    rw [e]
    refine step_holds hX t init d j b tok h q 0 hq hk hb ht hh ?_ (Or.inl rfl) ?_
    · rw [Nat.mul_zero, sumL_zero, sumA_zero]; exact init_before d j
    · unfold step start; rw [if_pos h0]
  | succ k ih =>
    intro t hq hk hb
    have h0 : ¬ c0 (F := Ideal) (crd t) = 1#1 := fun h => by have := (words t).2.2.1.1 h; omega
    obtain ⟨p1, p2, p3, p4⟩ := (words t).2.2.2.2.resolve_left (by omega)
    have hprev := ih (prev t) (p2.trans hq) (by omega) (hb.trans p3.symm)
    have e' : (prev t).val + 1 = t.val := Nat.sub_add_cancel (Nat.one_le_iff_ne_zero.2 p4)
    rw [e'] at hprev
    rw [st_succ]
    refine step_holds hX t (st m c t.val) d j b tok h q (k + 1) hq hk hb ht hh (Or.inr hprev) (Or.inr ?_) ?_
    · obtain ⟨M, hM, -⟩ := hprev
      rw [hM]; exact EReal.coe_ne_bot M
    · unfold step start; rw [if_neg h0]

/-- What a query block's last point stores: the attention of its queries. -/
theorem fin_holds (t : Fin (cfgA (F := Ideal)).N) (hf : ((cfgA (F := Ideal)).win (3 : Fin 4)).flush t = true)
    (z : Fin 1) (h : Fin 8) (r : Fin 512) (d : Fin 256) (b : Fin 4) (tok : Fin 8192) (q : ℕ) (hq : qi t = q)
    (hb : b.val = t.val / 136) (ht : tok.val = r.val + 512 * q) :
    fin (st m c (t.val + 1)) (ix4 z h r d) = ((out X b tok h d : ℝ) : EReal) := by
  have h1 : c1 (F := Ideal) (crd t) = 1#1 := by
    rw [(facts t).2.2.2.1] at hf; exact beq_iff_eq.1 hf
  have hk : ki t = q := ((words t).2.2.2.1.1 h1).trans hq
  have hr := r.isLt
  have hh := h.isLt
  have w16 : q < 16 := hq ▸ (words t).1
  rw [fin_apply]
  have H := st_holds hX q d ⟨h.val * 512 + r.val, by omega⟩ b tok h (by show tok.val = (h.val * 512 + r.val) % 512 + 512 * q; omega)
    (by show h.val = (h.val * 512 + r.val) / 512; omega) q t hq hk hb
  rw [sumL_full X b tok h _ (by omega) (by omega), sumA_full X b tok h d _ (by omega) (by omega)] at H
  exact holds_div H (den_pos X b tok h)

/-- The attention, by blocks of queries. -/
def outs (X : Reals) : S64x8x512x256.Idx → EReal := fun i =>
  ((out X ⟨(i 0).val / 16, by have h : (i 0).val < 64 := (i 0).isLt; omega⟩
    ⟨(i 0).val % 16 * 512 + (i 2).val, by have h : (i 2).val < 512 := (i 2).isLt; omega⟩ (i 1) (i 3) : ℝ) : EReal)

/-- A stored block holds its part of it. -/
theorem fin_outs (t : Fin (cfgA (F := Ideal)).N) (hf : ((cfgA (F := Ideal)).win (3 : Fin 4)).flush t = true)
    (z : Fin 1) (h : Fin 8) (r : Fin 512) (d : Fin 256) (T : Fin 64) (hT : T.val = t.val / 136 * 16 + qi t) :
    fin (st m c (t.val + 1)) (ix4 z h r d) = outs X (ix4 T h r d) := by
  have w16 := (words t).1
  have hr := r.isLt
  obtain ⟨q, hq⟩ : ∃ q, qi t = q := ⟨_, rfl⟩
  rw [hq] at hT w16
  exact fin_holds hX t hf z h r d ⟨T.val / 16, by omega⟩ ⟨T.val % 16 * 512 + r.val, by omega⟩ q hq
    (by show T.val / 16 = _; omega) (by show T.val % 16 * 512 + r.val = _; omega)

/-- The pipeline's output array: the attention, by blocks of queries. -/
theorem arr_eq : (dats m 0 c).arrAt (3 : Fin 4) (cfgA (F := Ideal)).N = outs X := by
  refine (dats m 0 c).arrAt_eq_of_covers (3 : Fin 4) (outs X) covers3 fun t hf y => ?_
  blk_simp
  have ht : t.val < 544 := t.isLt
  have w16 := (words t).1
  obtain ⟨z, h, r, d, hy⟩ : ∃ (z : Fin 1) (h : Fin 8) (r : Fin 512) (d : Fin 256), y = ix4 z h r d := ⟨y 0, y 1, y 2, y 3, eq_ix4 y⟩
  obtain ⟨T, hT⟩ : ∃ T : Fin 64, T.val = t.val / 136 * 16 + qi t := ⟨⟨_, by omega⟩, rfl⟩
  rw [emb3 t _ (place t).2.2.2 y z h r d hy T hT, hy]
  exact fin_outs hX t hf z h r d T hT

/-- The kernel's result, element by element. -/
theorem result_apply (b : Fin 4) (tok : Fin 8192) (h : Fin 8) (d : Fin 256) :
    result m c (ix4 b tok h d) = ((out X b tok h d : ℝ) : EReal) := by
  unfold result
  rw [arr_eq hX]
  pointwise
  have hb := b.isLt
  have ht := tok.isLt
  exact congrArg₂ (fun b t => ((out X b t h d : ℝ) : EReal)) (Fin.ext (by show (b.val * 16 + tok.val / 512) / 16 = b.val; omega))
    (Fin.ext (by show (b.val * 16 + tok.val / 512) % 16 * 512 + tok.val % 512 = tok.val; omega))

end Cert.KernelIdeal.Attn
-- ==== Proof.RowMax.lean ====
/- The maximum of a row of scores: a real, when the row shows one real score and no infinite one. -/
module

public import proofs.«01_k».proof.Proof.Soft
public import Idealize.ShloMosaic.Lib.Pointwise

@[expose] public section

noncomputable section

namespace Cert.ReferenceIdeal.Attn

open Idealize.ShloMosaic
open Cert.KernelIdeal.Attn (max_real)

/-- The maximum of a row along the last axis, from a start below every score, is a real number: some score of the row
    is a real, and the others are reals or the hidden keys' minus infinity. -/
theorem row_max_real {n0 n1 n2 n3 : ℕ} {u : Shape} (s : FVec Ideal ⟨4, ![n0, n1, n2, n3]⟩ .f32) (init : FVec Ideal u .f32)
    (h : Shape.ReducesTo ⟨4, ![n0, n1, n2, n3]⟩ [3] ⟨3, ![n0, n1, n2]⟩) (hu : 0 < u.numel) (a : Fin n0) (b : Fin n1) (c : Fin n2)
    (hi : init (Shape.Idx.first hu) = (⊥ : EReal)) (p : Fin n3 → Prop) [DecidablePred p] (σ : Fin n3 → ℝ) (hp : ∃ j, p j)
    (hs : ∀ j, s (ix4 a b c j) = if p j then (σ j : EReal) else ⊥) :
    ∃ r : ℝ, max (⊥ : EReal) (Host.reduce (FloatOps.maximumf (F := Ideal) (φ := .f32)) s init h hu (ix3 a b c)) = (r : EReal) := by
  rw [Host.reduce_eq_fold, Shape.ReducesTo.fold_fiber_r4_a3, hi]
  have e : (fun k : Fin n3 => s (ix4 a b c k)) = fun j => if p j then (σ j : EReal) else ⊥ := funext hs
  have k := max_real p σ ⊥ bot_ne_top (Or.inr hp)
  rw [← e] at k
  exact k

end Cert.ReferenceIdeal.Attn
-- ==== Proof.Ref.lean ====
/- The reference's result, at each element. -/
module

public import proofs.«01_k».proof.Proof.Target
public import proofs.«01_k».proof.Proof.RowMax
public import proofs.«01_k».proof.Proof.Gen.ReferenceIdeal
public import proofs.«01_k».proof.Proof.Gen.ReferenceIdeal.Run
public import Idealize.ShloMosaic.Lib.Pointwise
public import Idealize.ShloMosaic.Lib.Tactic.CleanTypes

@[expose] public section

set_option maxRecDepth 16384
set_option Elab.async false

noncomputable section

namespace Cert.ReferenceIdeal.Attn

open Cert.ReferenceIdeal Cert.ReferenceIdeal.Gen Cert.ReferenceIdeal.Value
open Idealize.ShloMosaic
open Idealize.ShloMosaic.TcCoe Idealize.ShloMosaic.Tactic Idealize.SL.Sem
open Cert.KernelIdeal.Attn (Reals tsc out coe_sum soft_eq rsqrt_192)

/-- The reference's minus infinity. -/
theorem bits_neg_inf : Ideal.ofBits .f32 0xFF800000#32 = ⊥ := by
  simp [Ideal.ofBits, Ideal.ieee]

/-- A choice by a comparison's bit is a choice by the comparison. -/
theorem select_bit (p : Prop) [Decidable p] (x y : EReal) : Scalar.select (BitVec.ofBool (decide p)) x y = if p then x else y := by
  by_cases h : p
  · rw [decide_eq_true h, if_pos h]; rfl
  · rw [decide_eq_false h, if_neg h]; rfl

/-- The comparison of a key's number with a query's, on words that hold them. -/
theorem le_word (j t : ℕ) (hj : j < 8192) (ht : t < 8192) :
    IntOp.cmpi .sle (BitVec.ofNat 32 j) (BitVec.ofNat 32 t) = BitVec.ofBool (decide (j ≤ t)) := by
  show BitVec.ofBool (BitVec.sle (BitVec.ofNat 32 j) (BitVec.ofNat 32 t)) = _
  have i1 : (BitVec.ofNat 32 j).toInt = (j : ℤ) := by
    rw [BitVec.toInt_eq_toNat_of_lt (by rw [BitVec.toNat_ofNat]; omega), BitVec.toNat_ofNat]; congr 1; omega
  have i2 : (BitVec.ofNat 32 t).toInt = (t : ℤ) := by
    rw [BitVec.toInt_eq_toNat_of_lt (by rw [BitVec.toNat_ofNat]; omega), BitVec.toNat_ofNat]; congr 1; omega
  rw [BitVec.sle, i1, i2]
  congr 1
  exact decide_eq_decide.2 Nat.cast_le

/-- The parts of the reference: the scaled scores, their mask, a row's maximum, a row value along its row, the weights'
    sums and the weighted values. -/
def rsc (q : FVec Ideal S4x8192x8x256 .f32) (r : FVec Ideal S4x8192x8x64 .f32) (k : FVec Ideal S4x8192x256 .f32) (e : FVec Ideal S4x8192x64 .f32) : FVec Ideal S4x8x8192x8192 .f32 :=
  mulf (addf (transpose S4x8x8192x8192 [0, 3, 2, 1] (Host.dotGeneral dot_S4x8192x256_S4x8192x8x256_S4x8192x8192x8_2_3_1_12_0_0 none k q) transposes_S4x8192x8192x8_S4x8x8192x8192_0_3_2_1) (transpose S4x8x8192x8192 [0, 3, 2, 1] (Host.dotGeneral dot_S4x8192x64_S4x8192x8x64_S4x8192x8192x8_2_3_1_12_0_0 none e r) transposes_S4x8192x8192x8_S4x8x8192x8192_0_3_2_1)) (broadcastInDim S4x8x8192x8192 ![] bcast_S_S4x8x8192x8192 (Host.rsqrt (constant S_ .f32 0x43400000#32)))
def rms (s : FVec Ideal S4x8x8192x8192 .f32) : FVec Ideal S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S4x8x8192x8192 ![] bcast_S_S4x8x8192x8192 (id (constant S_ .f32 0xFF800000#32)))
def rmx (s : FVec Ideal S4x8x8192x8192 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)
def row (x : FVec Ideal S4x8x8192 .f32) : FVec Ideal S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)
def rpe (s : FVec Ideal S4x8x8192x8192 .f32) : FVec Ideal S4x8x8192x8192 .f32 := Host.exp (subf s (row (rmx s)))
def rsm (p : FVec Ideal S4x8x8192x8192 .f32) : FVec Ideal S4x8x8192 .f32 :=
  Host.reduceAdd p (constant S_ .f32 0x00000000#32) reducesTo_S4x8x8192x8192_S4x8x8192_d3 h_S_
def rwt (p : FVec Ideal S4x8x8192x8192 .f32) : FVec Ideal S4x8x8192x8192 .f32 := Host.divf p (row (rsm p))
def rout (k : FVec Ideal S4x8192x256 .f32) (w : FVec Ideal S4x8x8192x8192 .f32) : FVec Ideal S4x8192x8x256 .bf16 :=
  truncf .bf16 (transpose S4x8192x8x256 [0, 3, 2, 1] (Host.dotGeneral dot_S4x8192x256_S4x8x8192x8192_S4x256x8x8192_1_3_2_12_0_0 none k w) transposes_S4x256x8x8192_S4x8192x8x256_0_3_2_1) bitsLt_bf16_f32

/-- The reference's result, by its parts. -/
theorem res_eq (m : (ℓ : Loc nD τ sig) → Buf (Elt Ideal) ℓ) (c : Dev nD) :
    res_main_v28 m c = rout (m ((c.tc : Thread nD τ).loc main_arg2)) (rwt (rpe (rms (rsc (m ((c.tc : Thread nD τ).loc main_arg0)) (m ((c.tc : Thread nD τ).loc main_arg1)) (m ((c.tc : Thread nD τ).loc main_arg2)) (m ((c.tc : Thread nD τ).loc main_arg3)))))) := rfl

/-- A scaled score: the products of the latent and of the rotary columns, times the scale. -/
theorem rsc_apply (q : FVec Ideal S4x8192x8x256 .f32) (r : FVec Ideal S4x8192x8x64 .f32) (k : FVec Ideal S4x8192x256 .f32) (e : FVec Ideal S4x8192x64 .f32) (b : Fin 4) (h : Fin 8) (t j : Fin 8192) :
    rsc q r k e (ix4 b h t j) = (∑ x, k (ix3 b j x) * q (ix4 b t h x) + ∑ x, e (ix3 b j x) * r (ix4 b t h x)) * Ideal.rsqrt (Ideal.ofBits .f32 0x43400000#32) := by
  pointwise [rsc]

/-- A key's number and a query's number, laid over the square of keys and queries; a mask laid over the heads. -/
theorem keys_apply (t j : Fin 8192) :
    broadcastInDim S8192x8192 ![0, 1] bcast_S1x8192_S8192x8192_0_1 (broadcastInDim S1x8192 ![1] bcast_S8192_S1x8192_1 (iotaInDim S8192 32 0)) (ix2 t j) = BitVec.ofNat 32 j.val := by
  pointwise
/-- A query's number, laid over the square of keys and queries. -/
theorem toks_apply (t j : Fin 8192) :
    broadcastInDim S8192x8192 ![0, 1] bcast_S8192x1_S8192x8192_0_1 (broadcastInDim S8192x1 ![0] bcast_S8192_S8192x1_0 (iotaInDim S8192 32 0)) (ix2 t j) = BitVec.ofNat 32 t.val := by
  pointwise
/-- A mask laid over sequences and heads. -/
theorem square_apply (x : IVec S8192x8192 1) (b : Fin 4) (h : Fin 8) (t j : Fin 8192) :
    broadcastInDim S4x8x8192x8192 ![2, 3] bcast_S8192x8192_S4x8x8192x8192_2_3 x (ix4 b h t j) = x (ix2 t j) := by
  pointwise
/-- What stands at a hidden key. -/
theorem none_apply (b : Fin 4) (h : Fin 8) (t j : Fin 8192) :
    broadcastInDim S4x8x8192x8192 ![] bcast_S_S4x8x8192x8192 (id (constant (F := Ideal) S_ .f32 0xFF800000#32)) (ix4 b h t j) = Ideal.ofBits .f32 0xFF800000#32 := by
  pointwise
  rfl
/-- A choice by a mask, at an element. -/
theorem pick_apply (c : IVec S4x8x8192x8192 1) (x y : FVec Ideal S4x8x8192x8192 .f32) (b : Fin 4) (h : Fin 8) (t j : Fin 8192) :
    select c x y (ix4 b h t j) = Scalar.select (c (ix4 b h t j)) (x (ix4 b h t j)) (y (ix4 b h t j)) := rfl
/-- A comparison, at an element. -/
theorem le_apply (x y : IVec S8192x8192 32) (t j : Fin 8192) : cmpi .sle x y (ix2 t j) = IntOp.cmpi .sle (x (ix2 t j)) (y (ix2 t j)) := rfl

/-- A masked score. -/
theorem rms_apply (s : FVec Ideal S4x8x8192x8192 .f32) (b : Fin 4) (h : Fin 8) (t j : Fin 8192) :
    rms s (ix4 b h t j) = Scalar.select (IntOp.cmpi .sle (BitVec.ofNat 32 j.val) (BitVec.ofNat 32 t.val)) (s (ix4 b h t j)) (Ideal.ofBits .f32 0xFF800000#32) := by
  unfold rms
  rw [pick_apply, square_apply, le_apply, keys_apply, toks_apply, none_apply]

/-- The larger of two row values; the start of a row's maximum. -/
theorem larger_apply (x y : FVec Ideal S4x8x8192 .f32) (i : S4x8x8192.Idx) : maximumf x y i = max (x i : EReal) (y i) := rfl
/-- The start of a row's maximum. -/
theorem start_apply (b : Fin 4) (h : Fin 8) (t : Fin 8192) :
    broadcastInDim S4x8x8192 ![] bcast_S_S4x8x8192 (constant (F := Ideal) S_ .f32 0xFF800000#32) (ix3 b h t) = Ideal.ofBits .f32 0xFF800000#32 := rfl

/-- A row's maximum is a real number, when the row has a visible key and the visible scores are reals. -/
theorem rmx_real (s : FVec Ideal S4x8x8192x8192 .f32) (b : Fin 4) (h : Fin 8) (t : Fin 8192) (p : Fin 8192 → Prop) [DecidablePred p]
    (σ : Fin 8192 → ℝ) (hp : ∃ j, p j) (hs : ∀ j, s (ix4 b h t j) = if p j then (σ j : EReal) else ⊥) :
    ∃ r : ℝ, rmx s (ix3 b h t) = (r : EReal) := by
  obtain ⟨r, hr⟩ := row_max_real s (constant (F := Ideal) S_ .f32 0xFF800000#32) reducesTo_S4x8x8192x8192_S4x8x8192_d3 h_S_ b h t bits_neg_inf p σ hp hs
  refine ⟨r, ?_⟩
  unfold rmx
  rw [larger_apply, start_apply, bits_neg_inf]
  exact hr

/-- A row's value, laid along the row. -/
theorem row_apply (x : FVec Ideal S4x8x8192 .f32) (b : Fin 4) (h : Fin 8) (t j : Fin 8192) : row x (ix4 b h t j) = x (ix3 b h t) := by
  pointwise [row]

/-- A weight before it is divided: the exponential of the score less the row's maximum. -/
theorem rpe_apply (s : FVec Ideal S4x8x8192x8192 .f32) (b : Fin 4) (h : Fin 8) (t j : Fin 8192) :
    rpe s (ix4 b h t j) = Ideal.exp (s (ix4 b h t j) - rmx s (ix3 b h t)) := by
  pointwise [rpe, row_apply]

/-- The sum of a row's weights. -/
theorem rsm_apply (p : FVec Ideal S4x8x8192x8192 .f32) (b : Fin 4) (h : Fin 8) (t : Fin 8192) :
    rsm p (ix3 b h t) = ∑ x, p (ix4 b h t x) := by
  pointwise [rsm]

/-- A weight divided by its row's sum. -/
theorem rwt_apply (p : FVec Ideal S4x8x8192x8192 .f32) (b : Fin 4) (h : Fin 8) (t j : Fin 8192) :
    rwt p (ix4 b h t j) = Ideal.div (p (ix4 b h t j)) (rsm p (ix3 b h t)) := by
  pointwise [rwt, row_apply]

/-- The values added up with a row's weights. -/
theorem rout_apply (k : FVec Ideal S4x8192x256 .f32) (w : FVec Ideal S4x8x8192x8192 .f32) (b : Fin 4) (t : Fin 8192) (h : Fin 8) (d : Fin 256) :
    rout k w (ix4 b t h d) = ∑ x, k (ix3 b x d) * w (ix4 b h t x) := by
  pointwise [rout]

end Cert.ReferenceIdeal.Attn
-- ==== Proof.RefValue.lean ====
/- The reference's result over real arguments: the attention over the reals. -/
module

public import proofs.«01_k».proof.Proof.Ref

@[expose] public section

set_option maxRecDepth 16384
set_option Elab.async false

noncomputable section

namespace Cert.ReferenceIdeal.Attn

open Cert.ReferenceIdeal Cert.ReferenceIdeal.Gen Cert.ReferenceIdeal.Value
open Idealize.ShloMosaic
open Idealize.ShloMosaic.TcCoe Idealize.ShloMosaic.Tactic Idealize.SL.Sem
open Cert.KernelIdeal.Attn (Reals tsc out coe_sum soft_eq rsqrt_192)

/-- A score of real arguments. -/
theorem rsc_real (X : Reals) (q : FVec Ideal S4x8192x8x256 .f32) (r : FVec Ideal S4x8192x8x64 .f32) (k : FVec Ideal S4x8192x256 .f32) (e : FVec Ideal S4x8192x64 .f32)
    (hq : ∀ i, q i = (X.q i : EReal)) (hr : ∀ i, r i = (X.r i : EReal)) (hk : ∀ i, k i = (X.k i : EReal)) (he : ∀ i, e i = (X.e i : EReal))
    (b : Fin 4) (h : Fin 8) (t j : Fin 8192) :
    rsc q r k e (ix4 b h t j) = ((tsc X b t h j : ℝ) : EReal) := by
  rw [rsc_apply, rsqrt_192]
  have e1 : (∑ x, k (ix3 b j x) * q (ix4 b t h x) : EReal) = ((∑ x, X.k (ix3 b j x) * X.q (ix4 b t h x) : ℝ) : EReal) := by
    rw [coe_sum]; exact Finset.sum_congr rfl fun x _ => by rw [hk, hq, EReal.coe_mul]
  have e2 : (∑ x, e (ix3 b j x) * r (ix4 b t h x) : EReal) = ((∑ x, X.e (ix3 b j x) * X.r (ix4 b t h x) : ℝ) : EReal) := by
    rw [coe_sum]; exact Finset.sum_congr rfl fun x _ => by rw [he, hr, EReal.coe_mul]
  rw [e1, e2, ← EReal.coe_add, ← EReal.coe_mul]
  rfl

/-- A masked score of real arguments: a key past the query counts for nothing. -/
theorem rms_real (X : Reals) (q : FVec Ideal S4x8192x8x256 .f32) (r : FVec Ideal S4x8192x8x64 .f32) (k : FVec Ideal S4x8192x256 .f32) (e : FVec Ideal S4x8192x64 .f32)
    (hq : ∀ i, q i = (X.q i : EReal)) (hr : ∀ i, r i = (X.r i : EReal)) (hk : ∀ i, k i = (X.k i : EReal)) (he : ∀ i, e i = (X.e i : EReal))
    (b : Fin 4) (h : Fin 8) (t j : Fin 8192) :
    rms (rsc q r k e) (ix4 b h t j) = if j.val ≤ t.val then ((tsc X b t h j : ℝ) : EReal) else ⊥ := by
  rw [rms_apply, rsc_real X q r k e hq hr hk he, le_word j.val t.val j.isLt t.isLt, bits_neg_inf, select_bit]

/-- The weighted mean of the values, from masked scores that are reals where a key is visible. -/
theorem mean_real (X : Reals) (k : FVec Ideal S4x8192x256 .f32) (s : FVec Ideal S4x8x8192x8192 .f32) (hk : ∀ i, k i = (X.k i : EReal))
    (b : Fin 4) (t : Fin 8192) (h : Fin 8) (d : Fin 256)
    (hs : ∀ j, s (ix4 b h t j) = if j.val ≤ t.val then ((tsc X b t h j : ℝ) : EReal) else ⊥) :
    rout k (rwt (rpe s)) (ix4 b t h d) = ((out X b t h d : ℝ) : EReal) := by
  have hR := rmx_real s b h t (fun j => j.val ≤ t.val) (fun j => tsc X b t h j) ⟨t, le_refl _⟩ hs
  rw [rout_apply]
  refine Eq.trans ?_ (soft_eq (fun j : Fin 8192 => j.val ≤ t.val) (fun j => tsc X b t h j) (fun j => X.k (ix3 b j d)) (rmx s (ix3 b h t)) hR ⟨t, le_refl _⟩)
  have hsum : (rsm (rpe s) (ix3 b h t) : EReal) = ∑ i : Fin 8192, Ideal.exp ((if i.val ≤ t.val then ((tsc X b t h i : ℝ) : EReal) else ⊥) - rmx s (ix3 b h t)) := by
    rw [rsm_apply]; exact Finset.sum_congr rfl fun i _ => by rw [rpe_apply, hs]
  refine Finset.sum_congr rfl fun j _ => ?_
  rw [rwt_apply, hsum, rpe_apply, hs, hk]

/-- The reference's result at an element, over real arguments. -/
theorem ref_apply (X : Reals) (q : FVec Ideal S4x8192x8x256 .f32) (r : FVec Ideal S4x8192x8x64 .f32) (k : FVec Ideal S4x8192x256 .f32) (e : FVec Ideal S4x8192x64 .f32)
    (hq : ∀ i, q i = (X.q i : EReal)) (hr : ∀ i, r i = (X.r i : EReal)) (hk : ∀ i, k i = (X.k i : EReal)) (he : ∀ i, e i = (X.e i : EReal))
    (b : Fin 4) (t : Fin 8192) (h : Fin 8) (d : Fin 256) :
    rout k (rwt (rpe (rms (rsc q r k e)))) (ix4 b t h d) = ((out X b t h d : ℝ) : EReal) :=
  mean_real X k (rms (rsc q r k e)) hk b t h d fun j => rms_real X q r k e hq hr hk he b h t j

end Cert.ReferenceIdeal.Attn
-- ==== Proof.Equal.lean ====
/- The kernel's result is the reference's, over finite arguments. -/
module

public import proofs.«01_k».proof.Pre_finite
public import proofs.«01_k».proof.Proof.Gen.Pre_finite
public import proofs.«01_k».proof.Proof.Value
public import proofs.«01_k».proof.Proof.RefValue

@[expose] public section

set_option maxRecDepth 16384
set_option Elab.async false

noncomputable section

namespace Cert.Proof

open Idealize.ShloMosaic Idealize.ShloMosaic.Tactic Idealize.SL.Sem
open Cert.KernelIdeal.Attn (Reals AreReals out)

/-- The bound of the precondition is plus infinity. -/
theorem bits_inf : Ideal.ofBits .f32 0x7F800000#32 = ⊤ := by
  simp [Ideal.ofBits, Ideal.ieee]

/-- A number whose magnitude compares below plus infinity is a real. -/
theorem real_of_below (x : EReal) (h : Ideal.cmp .olt (max x (-x)) (Ideal.ofBits .f32 0x7F800000#32) = 1#1) : x = (x.toReal : EReal) := by
  rw [bits_inf] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  refine (EReal.coe_toReal (fun e => ?_) (fun e => ?_)).symm
  · rw [e] at h'; simp at h'
  · rw [e] at h'; simp at h'

/-- An array the precondition calls finite holds reals. -/
theorem reals_of_finite {s : Shape} (x : FVec Ideal s .f32) (b : Shape.BroadcastsInDim ⟨0, ![]⟩ s (![] : Fin 0 → Fin s.rank))
    (h : cmpf .olt (Host.absf x) (broadcastInDim s ![] b (constant (F := Ideal) ⟨0, ![]⟩ .f32 0x7F800000#32)) = fun _ => 1#1) (i : s.Idx) :
    x i = ((x i : EReal).toReal : EReal) :=
  real_of_below (x i) (congrFun h i)

/-- The real arguments behind arrays. -/
def realsOf (q : FVec Ideal ⟨4, ![4, 8192, 8, 256]⟩ .f32) (r : FVec Ideal ⟨4, ![4, 8192, 8, 64]⟩ .f32) (k : FVec Ideal ⟨3, ![4, 8192, 256]⟩ .f32)
    (e : FVec Ideal ⟨3, ![4, 8192, 64]⟩ .f32) : Reals :=
  ⟨fun i => (q i : EReal).toReal, fun i => (r i : EReal).toReal, fun i => (k i : EReal).toReal, fun i => (e i : EReal).toReal⟩

/-- The two results are the same array, when the arguments agree and are reals. -/
theorem results_eq (m : (ℓ : Loc Cert.KernelIdeal.nD Cert.KernelIdeal.τ Cert.KernelIdeal.sig) → Buf (Elt Ideal) ℓ) (c : Dev Cert.KernelIdeal.nD) (X : Reals)
    (hX : AreReals m c X) (q : FVec Ideal ⟨4, ![4, 8192, 8, 256]⟩ .f32) (r : FVec Ideal ⟨4, ![4, 8192, 8, 64]⟩ .f32)
    (k : FVec Ideal ⟨3, ![4, 8192, 256]⟩ .f32) (e : FVec Ideal ⟨3, ![4, 8192, 64]⟩ .f32)
    (hq : q = Cert.KernelIdeal.Attn.aq m c) (hr : r = Cert.KernelIdeal.Attn.ar m c) (hk : k = Cert.KernelIdeal.Attn.ak m c)
    (he : e = Cert.KernelIdeal.Attn.ae m c) (b : Fin 4) (t : Fin 8192) (h : Fin 8) (d : Fin 256) :
    Cert.ReferenceIdeal.Attn.rout k (Cert.ReferenceIdeal.Attn.rwt (Cert.ReferenceIdeal.Attn.rpe (Cert.ReferenceIdeal.Attn.rms (Cert.ReferenceIdeal.Attn.rsc q r k e)))) (ix4 b t h d)
      = Cert.KernelIdeal.Attn.result m c (ix4 b t h d) := by
  subst hq hr hk he
  rw [Cert.ReferenceIdeal.Attn.ref_apply X _ _ _ _ hX.q hX.r hX.k hX.e]
  exact (Cert.KernelIdeal.Attn.result_apply hX b t h d).symm

end Cert.Proof
-- ==== Proof.InRunA.lean ====
/- The run of the input projection's body: what each buffer ends with, with more steps allowed than the generated
   module allows. -/
module

public import proofs.«01_k».proof.Proof.Gen.Kernel2Ideal.Frame.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) :
    Σ' (L13 : List (View.Piece (Elt F) S512x256 .f32)), Σ' (L14 : List (View.Piece (Elt F) S512x64 .f32)), Σ' (L15 : List (View.Piece (Elt F) S512x384 .bf16)), Σ' (L16 : List (View.Piece (Elt F) S256x512 .bf16)), Σ' (L17 : List (View.Piece (Elt F) S1x8x512x384 .bf16)), Σ' (L18 : List (View.Piece (Elt F) S512x512 .f32)), Σ' (L19 : List (View.Piece (Elt F) S512x512 .f32)), Σ' (L20 : List (View.Piece (Elt F) S512x1024 .bf16)), { L21 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)) -∗ K ⟨⟩))
          ⊢ wp frame (wpE (defs₀ (F := F)) Variants.none c none) E (cc0_input_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_input_proj_eq_skeleton]; unfold cc0_input_proj_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Kernel2Ideal.Gen

end
-- ==== Proof.InFrame.lean ====
/- The frame of the input projection: what its outputs hold point by point, the run, and the frame.
   The statements are those that are generated for the program; the run of the body is in InRunA.lean, with more
   steps allowed. -/
module

public import proofs.«01_k».proof.Proof.InRunA
public import Idealize.ShloMosaic.Lib.Claim

@[expose] public section

set_option maxRecDepth 16384
set_option maxHeartbeats 20000000

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 13 tile its block (1 store of `S512x256`, checked by the kernel's evaluation: Lib/Ring.lean `Piece.tiledL`, linear in the pieces, through a loop's `@[irreducible]` trip theorem too), so they cover it. -/
theorem cover0_A_13 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1 S512x256.size (by sl_kernel_rfl) y

/-- What the run leaves in output 13's staging buffer: its pieces read back over junk. -/
def out0_A_13 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x256 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1)

/-- The run's pieces for output 14 tile its block (1 store of `S512x64`, checked by the kernel's evaluation: Lib/Ring.lean `Piece.tiledL`, linear in the pieces, through a loop's `@[irreducible]` trip theorem too), so they cover it. -/
theorem cover0_A_14 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1 S512x64.size (by sl_kernel_rfl) y

/-- What the run leaves in output 14's staging buffer: its pieces read back over junk. -/
def out0_A_14 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x64 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1)

/-- The run's pieces for output 15 are of SEVERAL sizes (2 stores of `S512x128`, `S512x256`): cut into blocks of `![512, 128]` they tile its block (checked by the kernel's evaluation: Lib/Ring.lean `Piece.tiledBy`), so they cover it. -/
theorem cover0_A_15 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.1 ![512, 128] (by sl_kernel_rfl) y

/-- What the run leaves in output 15's staging buffer: its pieces read back over junk. -/
def out0_A_15 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x384 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.1)

/-- The run's pieces for output 16 tile its block (1 store of `S256x512`, checked by the kernel's evaluation: Lib/Ring.lean `Piece.tiledL`, linear in the pieces, through a loop's `@[irreducible]` trip theorem too), so they cover it. -/
theorem cover0_A_16 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.1 S256x512.size (by sl_kernel_rfl) y

/-- What the run leaves in output 16's staging buffer: its pieces read back over junk. -/
def out0_A_16 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S256x512 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.1)

/-- The run's pieces for output 17 are of SEVERAL sizes (16 stores of `S1x1x512x128`, `S1x1x512x256`): cut into blocks of `![1, 1, 512, 128]` they tile its block (checked by the kernel's evaluation: Lib/Ring.lean `Piece.tiledBy`), so they cover it. -/
theorem cover0_A_17 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S1x8x512x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.1 ![1, 1, 512, 128] (by sl_kernel_rfl) y

/-- What the run leaves in output 17's staging buffer: its pieces read back over junk. -/
def out0_A_17 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S1x8x512x384 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.1)

/-- The run's pieces for output 18 tile its block (1 store of `S512x512`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.1 S512x512.size (by sl_kernel_rfl) y

/-- What the run leaves in output 18's staging buffer: its pieces read back over junk. -/
def out0_A_18 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x512 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.1)

/-- The run's pieces for output 19 tile its block (1 store of `S512x512`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.1 S512x512.size (by sl_kernel_rfl) y

/-- What the run leaves in output 19's staging buffer: its pieces read back over junk. -/
def out0_A_19 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x512 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.1)

/-- The run's pieces for output 20 tile its block (1 store of `S512x1024`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.1 S512x1024.size (by sl_kernel_rfl) y

/-- What the run leaves in output 20's staging buffer: its pieces read back over junk. -/
def out0_A_20 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x1024 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.1)

/-- The run's pieces for output 21 tile its block (1 store of `S512x512`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.2.1 S512x512.size (by sl_kernel_rfl) y

/-- What the run leaves in output 21's staging buffer: its pieces read back over junk. -/
def out0_A_21 (c : Dev nD) (i : grid0.Coords) (arg1 : Memref sig .tc .vmem S1x512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x896 .bf16) (harg6 : arg6.IsWhole) (arg7 : Memref sig .tc .vmem S384x3072 .bf16) (harg7 : arg7.IsWhole) (arg8 : Memref sig .tc .vmem S8x128x256 .bf16) (harg8 : arg8.IsWhole) (arg9 : Memref sig .tc .vmem S1024x2176 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x64 .f32) (harg15 : arg15.IsWhole) (arg16 : Memref sig .tc .vmem S512x384 .bf16) (harg16 : arg16.IsWhole) (arg17 : Memref sig .tc .vmem S256x512 .bf16) (harg17 : arg17.IsWhole) (arg18 : Memref sig .tc .vmem S1x8x512x384 .bf16) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S512x512 .f32) (harg22 : arg22.IsWhole)
    (x0 : Vec F S1x512x1024 .f32) (x1 : Vec F S1x1x1024 .f32) (x2 : Vec F S1x1x1024 .f32) (x3 : Vec F S512x128 .f32) (x4 : Vec F S512x128 .f32) (x5 : Vec F S1024x896 .bf16) (x6 : Vec F S384x3072 .bf16) (x7 : Vec F S8x128x256 .bf16) (x8 : Vec F S1024x2176 .bf16) (x9 : Vec F S128x512 .bf16) (x10 : Vec F S1x512 .f32) (x11 : Vec F S1x384 .f32) (x12 : Vec F S1x256 .f32) : Vec F S512x512 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x256 .f32 × Vec F S512x64 .f32 × Vec F S512x384 .bf16 × Vec F S256x512 .bf16 × Vec F S1x8x512x384 .bf16 × Vec F S512x512 .f32 × Vec F S512x512 .f32 × Vec F S512x1024 .bf16 × Vec F S512x512 .f32 :=
  (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t).1
    | ⟨14, _⟩ => (outsAt0 m c t).2.1
    | ⟨15, _⟩ => (outsAt0 m c t).2.2.1
    | ⟨16, _⟩ => (outsAt0 m c t).2.2.2.1
    | ⟨17, _⟩ => (outsAt0 m c t).2.2.2.2.1
    | ⟨18, _⟩ => (outsAt0 m c t).2.2.2.2.2.1
    | ⟨19, _⟩ => (outsAt0 m c t).2.2.2.2.2.2.1
    | ⟨20, _⟩ => (outsAt0 m c t).2.2.2.2.2.2.2.1
    | ⟨21, _⟩ => (outsAt0 m c t).2.2.2.2.2.2.2.2
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t).1 := by dsimp only [dats]
theorem after0_14 (c : Dev nD) (t : Fin cfg0.N) : (dats m 0 c).after 14 t = (outsAt0 m c t).2.1 := by dsimp only [dats]
theorem after0_15 (c : Dev nD) (t : Fin cfg0.N) : (dats m 0 c).after 15 t = (outsAt0 m c t).2.2.1 := by dsimp only [dats]
theorem after0_16 (c : Dev nD) (t : Fin cfg0.N) : (dats m 0 c).after 16 t = (outsAt0 m c t).2.2.2.1 := by dsimp only [dats]
theorem after0_17 (c : Dev nD) (t : Fin cfg0.N) : (dats m 0 c).after 17 t = (outsAt0 m c t).2.2.2.2.1 := by dsimp only [dats]
theorem after0_18 (c : Dev nD) (t : Fin cfg0.N) : (dats m 0 c).after 18 t = (outsAt0 m c t).2.2.2.2.2.1 := by dsimp only [dats]
theorem after0_19 (c : Dev nD) (t : Fin cfg0.N) : (dats m 0 c).after 19 t = (outsAt0 m c t).2.2.2.2.2.2.1 := by dsimp only [dats]
theorem after0_20 (c : Dev nD) (t : Fin cfg0.N) : (dats m 0 c).after 20 t = (outsAt0 m c t).2.2.2.2.2.2.2.1 := by dsimp only [dats]
theorem after0_21 (c : Dev nD) (t : Fin cfg0.N) : (dats m 0 c).after 21 t = (outsAt0 m c t).2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 20000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  unfold outsAt0
  unfold out0_A_13 out0_A_14 out0_A_15 out0_A_16 out0_A_17 out0_A_18 out0_A_19 out0_A_20 out0_A_21; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Gen

end
-- ==== Proof.InBlocks.lean ====
/- What the input projection's run leaves in its outputs, block by block, as generated for the program. -/
module

public import proofs.«01_k».proof.Proof.InFrame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 13's array: the run's contents for that window after the body (`Gen.outsAt0`: its component 0), read through the window's block. -/
theorem flushed13 (c : Dev nD) (t : Fin cfg0.N) :
    (dats m 0 c).flushed 13 t = (cfg0.win 13).cut (grid0.coords t) ((outsAt0 m c t).1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — the kernel's one case, `Gen.outsAt0` by definition. -/
theorem flushed13_A (c : Dev nD) (t : Fin cfg0.N) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed13, outsAt0]

/-- The index map sends distinct grid points to distinct block indices (decided over the 64 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S32768x256.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 1), read through the window's block. -/
theorem flushed14 (c : Dev nD) (t : Fin cfg0.N) :
    (dats m 0 c).flushed 14 t = (cfg0.win 14).cut (grid0.coords t) ((outsAt0 m c t).2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — the kernel's one case, `Gen.outsAt0` by definition. -/
theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed14, outsAt0]

/-- The index map sends distinct grid points to distinct block indices (decided over the 64 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S32768x64.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 2), read through the window's block. -/
theorem flushed15 (c : Dev nD) (t : Fin cfg0.N) :
    (dats m 0 c).flushed 15 t = (cfg0.win 15).cut (grid0.coords t) ((outsAt0 m c t).2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — the kernel's one case, `Gen.outsAt0` by definition. -/
theorem flushed15_A (c : Dev nD) (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed15, outsAt0]

/-- The index map sends distinct grid points to distinct block indices (decided over the 64 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S32768x384.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 3), read through the window's block. -/
theorem flushed16 (c : Dev nD) (t : Fin cfg0.N) :
    (dats m 0 c).flushed 16 t = (cfg0.win 16).cut (grid0.coords t) ((outsAt0 m c t).2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — the kernel's one case, `Gen.outsAt0` by definition. -/
theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed16, outsAt0]

/-- The index map sends distinct grid points to distinct block indices (decided over the 64 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S256x32768.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 4), read through the window's block. -/
theorem flushed17 (c : Dev nD) (t : Fin cfg0.N) :
    (dats m 0 c).flushed 17 t = (cfg0.win 17).cut (grid0.coords t) ((outsAt0 m c t).2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed17, outsAt0]

/-- The index map sends distinct grid points to distinct block indices (decided over the 64 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S64x8x512x384.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 5), read through the window's block. -/
theorem flushed18 (c : Dev nD) (t : Fin cfg0.N) :
    (dats m 0 c).flushed 18 t = (cfg0.win 18).cut (grid0.coords t) ((outsAt0 m c t).2.2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed18, outsAt0]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32768x512.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 6), read through the window's block. -/
theorem flushed19 (c : Dev nD) (t : Fin cfg0.N) :
    (dats m 0 c).flushed 19 t = (cfg0.win 19).cut (grid0.coords t) ((outsAt0 m c t).2.2.2.2.2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed19, outsAt0]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S32768x512.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 7), read through the window's block. -/
theorem flushed20 (c : Dev nD) (t : Fin cfg0.N) :
    (dats m 0 c).flushed 20 t = (cfg0.win 20).cut (grid0.coords t) ((outsAt0 m c t).2.2.2.2.2.2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed20, outsAt0]

/-- The index map sends distinct grid points to distinct block indices (decided over the 64 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32768x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 8), read through the window's block. -/
theorem flushed21 (c : Dev nD) (t : Fin cfg0.N) :
    (dats m 0 c).flushed 21 t = (cfg0.win 21).cut (grid0.coords t) ((outsAt0 m c t).2.2.2.2.2.2.2.2) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed21, outsAt0]

/-- The index map sends distinct grid points to distinct block indices (decided over the 64 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S32768x512.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v61_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v61_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v61_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v61_3) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v61_4) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v61_5) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v61_6) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v61_7) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v61_8) = (dats m 0 c).arrAt 21 cfg0.N :=
  (h c).1 21

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 267840 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v61_0) = (dats m 0 c).arrAt 13 cfg0.N
      ∧ r.2.mem ((c : Thread nD τ).loc main_v61_1) = (dats m 0 c).arrAt 14 cfg0.N
      ∧ r.2.mem ((c : Thread nD τ).loc main_v61_2) = (dats m 0 c).arrAt 15 cfg0.N
      ∧ r.2.mem ((c : Thread nD τ).loc main_v61_3) = (dats m 0 c).arrAt 16 cfg0.N
      ∧ r.2.mem ((c : Thread nD τ).loc main_v61_4) = (dats m 0 c).arrAt 17 cfg0.N
      ∧ r.2.mem ((c : Thread nD τ).loc main_v61_5) = (dats m 0 c).arrAt 18 cfg0.N
      ∧ r.2.mem ((c : Thread nD τ).loc main_v61_6) = (dats m 0 c).arrAt 19 cfg0.N
      ∧ r.2.mem ((c : Thread nD τ).loc main_v61_7) = (dats m 0 c).arrAt 20 cfg0.N
      ∧ r.2.mem ((c : Thread nD τ).loc main_v61_8) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post13 m r h c,
      post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Kernel2Ideal.Value

end
-- ==== Proof.InTarget.lean ====
/- The parts of the input projection that are read out, as numbers. -/
module

public import Idealize.ShloMosaic.Lib.Pointwise

@[expose] public section

noncomputable section

namespace Cert.In

open Idealize.ShloMosaic

variable (x : FVec Ideal ⟨3, ![4, 8192, 1024]⟩ .f32) (a b : FVec Ideal ⟨3, ![4, 1, 1024]⟩ .f32) (w : FVec Ideal ⟨2, ![1024, 5840]⟩ .f32)
  (g : FVec Ideal ⟨1, ![256]⟩ .f32) (s : Fin 4) (t : Fin 8192)

/-- A modulated activation: the activation scaled by one more than the scale, and shifted. -/
def act (e : Fin 1024) : EReal := x (ix3 s t e) * (1 + a (ix3 s 0 e)) + b (ix3 s 0 e)

/-- A column of the combined projection. -/
def col (j : Fin 5840) : EReal := ∑ e : Fin 1024, act x a b s t e * w (ix2 e j)

/-- A compressed row, over its root mean square, times the gain. -/
def comp (j : Fin 256) : EReal :=
  col x a b w s t ⟨384 + j.val, by omega⟩
    * Ideal.rsqrt (Ideal.div (∑ k : Fin 256, col x a b w s t ⟨384 + k.val, by omega⟩ * col x a b w s t ⟨384 + k.val, by omega⟩)
        (Ideal.ofBits .f32 0x43800000#32) + Ideal.ofBits .f32 0x358637BD#32) * g (ix1 j)

/-- The queries of the gated linear attention, scaled. -/
def query (j : Fin 512) : EReal := col x a b w s t ⟨704 + j.val, by omega⟩ * Ideal.ofBits .f32 0x3DB504F3#32

/-- Its keys. -/
def key (j : Fin 512) : EReal := col x a b w s t ⟨1216 + j.val, by omega⟩

/-- Its values. -/
def value (j : Fin 1024) : EReal := col x a b w s t ⟨1728 + j.val, by omega⟩

end Cert.In
-- ==== Proof.InRead.lean ====
/- What the input projection's weights hold of the arguments. -/
module

public import proofs.«01_k».proof.Proof.InTarget
public import proofs.«01_k».proof.Proof.Gen.Kernel2Ideal.Frame.Runs
public import Idealize.ShloMosaic.Lib.StableHlo.ReadAt
public import Idealize.ShloMosaic.Lib.Pipeline.ValueKit
public import Idealize.ShloMosaic.Lib.Pointwise

@[expose] public section

set_option maxRecDepth 16384
set_option Elab.async false

noncomputable section

namespace Cert.Kernel2Ideal.In

open Cert.Kernel2Ideal Cert.Kernel2Ideal.Gen
open Idealize.ShloMosaic
open Idealize.ShloMosaic.TcCoe Idealize.ShloMosaic.Tactic Idealize.SL.Sem

variable (m : (ℓ : Loc nD τ sig) → Buf (Elt Ideal) ℓ) (c : Dev nD)

/-- The arguments read. -/
abbrev ax : FVec Ideal S4x8192x1024 .f32 := m ((c.tc : Thread nD τ).loc main_arg0)
abbrev asc : FVec Ideal S4x1x1024 .f32 := m ((c.tc : Thread nD τ).loc main_arg1)
abbrev ash : FVec Ideal S4x1x1024 .f32 := m ((c.tc : Thread nD τ).loc main_arg2)
abbrev aw : FVec Ideal S1024x5840 .f32 := m ((c.tc : Thread nD τ).loc main_arg3)
abbrev ag : FVec Ideal S256 .f32 := m ((c.tc : Thread nD τ).loc main_arg6)

/-- The gain of the compressed rows. -/
theorem v60_apply (j : Fin 256) : (V m c main_v60 : FVec Ideal S1x256 .f32) (ix2 0 j) = ag m c (ix1 j) := by
  unfold V
  simp only [List.flatten_cons, List.flatten_nil, List.append_nil, List.cons_append, List.nil_append]
  after_reads_at

/-- The packed weights of the latent attention, at the compressed columns. -/
theorem v51_apply (e : Fin 1024) (j : Fin 896) (h1 : 384 ≤ j.val) (h2 : j.val < 640) :
    (V m c main_v51 : FVec Ideal S1024x896 .bf16) (ix2 e j) = aw m c (ix2 e ⟨j.val, by omega⟩) := by
  unfold V
  simp only [List.flatten_cons, List.flatten_nil, List.append_nil, List.cons_append, List.nil_append]
  after_reads_simp
  pointwise
  rw [dif_neg (by omega), dif_pos (by omega)]
  after_reads_simp
  pointwise
  exact congrArg (aw m c) (congrArg (ix2 e) (Fin.ext (by show 384 + (j.val - 384) = j.val; omega)))

/-- The packed weights of the gated linear attention: the columns of the combined projection from 704. -/
theorem v53_apply (e : Fin 1024) (j : Fin 2176) (hj : j.val < 2048) :
    (V m c main_v53 : FVec Ideal S1024x2176 .bf16) (ix2 e j) = aw m c (ix2 e ⟨704 + j.val, by omega⟩) := by
  unfold V
  simp only [List.flatten_cons, List.flatten_nil, List.append_nil, List.cons_append, List.nil_append]
  after_reads_simp
  pointwise
  by_cases h1 : j.val < 512
  · rw [dif_pos h1]
    after_reads_simp
    pointwise
  · rw [dif_neg h1]
    by_cases h2 : j.val - 512 < 512
    · rw [dif_pos h2]
      after_reads_simp
      pointwise
      exact congrArg (aw m c) (congrArg (ix2 e) (Fin.ext (by show 1216 + (j.val - 512) = 704 + j.val; omega)))
    · rw [dif_neg h2, dif_pos (by omega)]
      after_reads_simp
      pointwise
      exact congrArg (aw m c) (congrArg (ix2 e) (Fin.ext (by show 1728 + (j.val - 512 - 512) = 704 + j.val; omega)))

end Cert.Kernel2Ideal.In
-- ==== Proof.InPoint.lean ====
/- The points of the input projection's grid: where the windows lie, and what the blocks hold of the arguments. -/
module

public import proofs.«01_k».proof.Proof.InRead
public import Idealize.ShloMosaic.Lib.Pipeline.ValueKit
public import Idealize.ShloMosaic.Lib.Pipeline.ValueKit.Geometry

@[expose] public section

set_option maxRecDepth 16384
set_option Elab.async false

noncomputable section

namespace Cert.Kernel2Ideal.In

open Cert.Kernel2Ideal Cert.Kernel2Ideal.Gen
open Idealize.ShloMosaic
open Idealize.ShloMosaic.TcCoe Idealize.ShloMosaic.Tactic Idealize.SL.Sem

/-- Where the input windows lie. -/
theorem inPlace : ∀ t : Fin cfg0.N, win0_0.index t = ![t.val / 16, t.val % 16, 0] ∧ win0_1.index t = ![t.val / 16, 0, 0]
    ∧ win0_2.index t = ![t.val / 16, 0, 0] ∧ win0_5.index t = ![0, 0] ∧ win0_8.index t = ![0, 0] ∧ win0_12.index t = ![0, 0] :=
  (by decide +kernel : ∀ t : Fin grid0.N, win0_0.index t = ![t.val / 16, t.val % 16, 0] ∧ win0_1.index t = ![t.val / 16, 0, 0]
    ∧ win0_2.index t = ![t.val / 16, 0, 0] ∧ win0_5.index t = ![0, 0] ∧ win0_8.index t = ![0, 0] ∧ win0_12.index t = ![0, 0])

/-- Where the output windows lie. -/
theorem outPlace : ∀ t : Fin cfg0.N, win0_13.index t = ![t.val, 0] ∧ win0_18.index t = ![t.val, 0]
    ∧ win0_19.index t = ![t.val, 0] ∧ win0_20.index t = ![t.val, 0] :=
  (by decide +kernel : ∀ t : Fin grid0.N, win0_13.index t = ![t.val, 0] ∧ win0_18.index t = ![t.val, 0]
    ∧ win0_19.index t = ![t.val, 0] ∧ win0_20.index t = ![t.val, 0])

/-- The compressed rows' blocks cover their array. -/
theorem covers13 : (cfg0.win 13).Covers := of_decide_eq_true (by sl_kernel_rfl)
/-- The queries' blocks cover their array. -/
theorem covers18 : (cfg0.win 18).Covers := of_decide_eq_true (by sl_kernel_rfl)
/-- The keys' blocks cover their array. -/
theorem covers19 : (cfg0.win 19).Covers := of_decide_eq_true (by sl_kernel_rfl)
/-- The values' blocks cover their array. -/
theorem covers20 : (cfg0.win 20).Covers := of_decide_eq_true (by sl_kernel_rfl)

variable (m : (ℓ : Loc nD τ sig) → Buf (Elt Ideal) ℓ) (c : Dev nD)

/-- The blocks that the results are computed from. -/
abbrev bx (t : Fin cfg0.N) : FVec Ideal S1x512x1024 .f32 := iblk m c 0 t
abbrev ba (t : Fin cfg0.N) : FVec Ideal S1x1x1024 .f32 := iblk m c 1 t
abbrev bb (t : Fin cfg0.N) : FVec Ideal S1x1x1024 .f32 := iblk m c 2 t
abbrev bw1 (t : Fin cfg0.N) : FVec Ideal S1024x896 .bf16 := iblk m c 5 t
abbrev bw2 (t : Fin cfg0.N) : FVec Ideal S1024x2176 .bf16 := iblk m c 8 t
abbrev bg (t : Fin cfg0.N) : FVec Ideal S1x256 .f32 := iblk m c 12 t

/-- A block of activations. -/
theorem bx_apply (t : Fin cfg0.N) (r : Fin 512) (e : Fin 1024) (z : Fin 1) (s : Fin 4) (n : Fin 8192) (hs : s.val = t.val / 16) (hn : n.val = t.val % 16 * 512 + r.val) :
    bx m c t (ix3 z r e) = ax m c (ix3 s n e) := by
  have hi := (inPlace t).1
  rw [show ax m c = (V m c main_arg0 : FVec Ideal S4x8192x1024 .f32) from (V_main_arg0 m c).symm]
  blk_simp [bx, iblk]
  refine congrArg (V m c main_arg0) (funext fun a => Fin.ext ?_)
  match a with
  | ⟨0, _⟩ => blk_simp [hi]; exact hs.symm
  | ⟨1, _⟩ => blk_simp [hi]; exact hn.symm
  | ⟨2, _⟩ => blk_simp [hi]

/-- A block of scales. -/
theorem ba_apply (t : Fin cfg0.N) (e : Fin 1024) (y z : Fin 1) (s : Fin 4) (hs : s.val = t.val / 16) :
    ba m c t (ix3 y z e) = asc m c (ix3 s z e) := by
  have hi := (inPlace t).2.1
  rw [show asc m c = (V m c main_arg1 : FVec Ideal S4x1x1024 .f32) from (V_main_arg1 m c).symm]
  blk_simp [ba, iblk]
  refine congrArg (V m c main_arg1) (funext fun a => Fin.ext ?_)
  match a with
  | ⟨0, _⟩ => blk_simp [hi]; exact hs.symm
  | ⟨1, _⟩ => blk_simp [hi]
  | ⟨2, _⟩ => blk_simp [hi]

/-- A block of shifts. -/
theorem bb_apply (t : Fin cfg0.N) (e : Fin 1024) (y z : Fin 1) (s : Fin 4) (hs : s.val = t.val / 16) :
    bb m c t (ix3 y z e) = ash m c (ix3 s z e) := by
  have hi := (inPlace t).2.2.1
  rw [show ash m c = (V m c main_arg2 : FVec Ideal S4x1x1024 .f32) from (V_main_arg2 m c).symm]
  blk_simp [bb, iblk]
  refine congrArg (V m c main_arg2) (funext fun a => Fin.ext ?_)
  match a with
  | ⟨0, _⟩ => blk_simp [hi]; exact hs.symm
  | ⟨1, _⟩ => blk_simp [hi]
  | ⟨2, _⟩ => blk_simp [hi]

/-- The packed weights of the latent attention are one block. -/
theorem bw1_apply (t : Fin cfg0.N) (e : Fin 1024) (j : Fin 896) :
    bw1 m c t (ix2 e j) = (V m c main_v51 : FVec Ideal S1024x896 .bf16) (ix2 e j) := by
  have hi := (inPlace t).2.2.2.1
  blk_simp [bw1, iblk]
  refine congrArg (V m c main_v51) (funext fun a => Fin.ext ?_)
  match a with
  | ⟨0, _⟩ => blk_simp [hi]
  | ⟨1, _⟩ => blk_simp [hi]

/-- The packed weights of the gated linear attention are one block. -/
theorem bw2_apply (t : Fin cfg0.N) (e : Fin 1024) (j : Fin 2176) :
    bw2 m c t (ix2 e j) = (V m c main_v53 : FVec Ideal S1024x2176 .bf16) (ix2 e j) := by
  have hi := (inPlace t).2.2.2.2.1
  blk_simp [bw2, iblk]
  refine congrArg (V m c main_v53) (funext fun a => Fin.ext ?_)
  match a with
  | ⟨0, _⟩ => blk_simp [hi]
  | ⟨1, _⟩ => blk_simp [hi]

/-- The gain is one block. -/
theorem bg_apply (t : Fin cfg0.N) (z : Fin 1) (j : Fin 256) :
    bg m c t (ix2 z j) = (V m c main_v60 : FVec Ideal S1x256 .f32) (ix2 z j) := by
  have hi := (inPlace t).2.2.2.2.2
  blk_simp [bg, iblk]
  refine congrArg (V m c main_v60) (funext fun a => Fin.ext ?_)
  match a with
  | ⟨0, _⟩ => blk_simp [hi]
  | ⟨1, _⟩ => blk_simp [hi]

end Cert.Kernel2Ideal.In
-- ==== Proof.InPay.lean ====
/- What the input projection computes of a block of rows, at each element. -/
module

public import proofs.«01_k».proof.Proof.Gen.Kernel2Ideal.Skeleton
public import Idealize.ShloMosaic.Lib.Pointwise

@[expose] public section

set_option maxRecDepth 16384
set_option Elab.async false

noncomputable section

namespace Cert.Kernel2Ideal.In

open Cert.Kernel2Ideal Cert.Kernel2Ideal.Gen
open Idealize.ShloMosaic
open Idealize.ShloMosaic.TcCoe Idealize.ShloMosaic.Tactic Idealize.SL.Sem

/-- A modulated row. -/
theorem pay1_apply (x0 : FVec Ideal S1x512x1024 .f32) (x1 x2 : FVec Ideal S1x1x1024 .f32) (r : Fin 512) (e : Fin 1024) :
    k0_pay1 (F := Ideal) x0 x1 x2 (ix2 r e) = x0 (ix3 0 r e) * (1 + x1 (ix3 0 0 e)) + x2 (ix3 0 0 e) := by
  pointwise [k0_pay1]

/-- A row against the packed weights of the gated linear attention. -/
theorem pay39_apply (h : FVec Ideal S512x1024 .bf16) (w : FVec Ideal S1024x2176 .bf16) (r : Fin 512) (j : Fin 2176) :
    k0_pay39 (F := Ideal) h w (ix2 r j) = ∑ e : Fin 1024, h (ix2 r e) * w (ix2 e j) := by
  pointwise [k0_pay39]

/-- A row against the packed weights of the latent attention. -/
theorem pay4_apply (x0 : FVec Ideal S1x512x1024 .f32) (x1 x2 : FVec Ideal S1x1x1024 .f32) (w : FVec Ideal S1024x896 .bf16) (r : Fin 512) (j : Fin 896) :
    k0_pay4 (F := Ideal) x0 x1 x2 w (ix2 r j) = ∑ e : Fin 1024, k0_pay1 (F := Ideal) x0 x1 x2 (ix2 r e) * w (ix2 e j) := by
  pointwise [k0_pay4]

/-- The keys. -/
theorem pay41_apply (h : FVec Ideal S512x1024 .bf16) (w : FVec Ideal S1024x2176 .bf16) (r : Fin 512) (j : Fin 512) :
    k0_pay41 (F := Ideal) h w (ix2 r j) = k0_pay39 (F := Ideal) h w (ix2 r ⟨512 + j.val, by omega⟩) := by
  pointwise [k0_pay41]

/-- The values. -/
theorem pay42_apply (h : FVec Ideal S512x1024 .bf16) (w : FVec Ideal S1024x2176 .bf16) (r : Fin 512) (j : Fin 1024) :
    k0_pay42 (F := Ideal) h w (ix2 r j) = k0_pay39 (F := Ideal) h w (ix2 r ⟨1024 + j.val, by omega⟩) := by
  pointwise [k0_pay42]

/-- The queries. -/
theorem pay40_apply (h : FVec Ideal S512x1024 .bf16) (w : FVec Ideal S1024x2176 .bf16) (r : Fin 512) (j : Fin 512) :
    k0_pay40 (F := Ideal) h w (ix2 r j) = k0_pay39 (F := Ideal) h w (ix2 r ⟨j.val, by omega⟩) * (Ideal.ofBits .f32 0x3DB504F3#32) := by
  pointwise [k0_pay40]

/-- The normed compressed rows. -/
theorem pay5_apply (x0 : FVec Ideal S1x512x1024 .f32) (x1 x2 : FVec Ideal S1x1x1024 .f32) (w : FVec Ideal S1024x896 .bf16) (g : FVec Ideal S1x256 .f32)
    (r : Fin 512) (j : Fin 256) :
    k0_pay5 (F := Ideal) x0 x1 x2 w g (ix2 r j) = k0_pay4 (F := Ideal) x0 x1 x2 w (ix2 r ⟨384 + j.val, by omega⟩)
      * Ideal.rsqrt (Ideal.div (∑ x : Fin 256, k0_pay4 (F := Ideal) x0 x1 x2 w (ix2 r ⟨384 + x.val, by omega⟩) * k0_pay4 (F := Ideal) x0 x1 x2 w (ix2 r ⟨384 + x.val, by omega⟩))
        (Ideal.ofBits .f32 0x43800000#32) + Ideal.ofBits .f32 0x358637BD#32) * g (ix2 0 j) := by
  pointwise [k0_pay5]

end Cert.Kernel2Ideal.In
-- ==== Proof.InPart.lean ====
/- What the input projection computes of a point's blocks, of the arguments. -/
module

public import proofs.«01_k».proof.Proof.InPoint
public import proofs.«01_k».proof.Proof.InPay

@[expose] public section

set_option maxRecDepth 16384
set_option Elab.async false

noncomputable section

namespace Cert.Kernel2Ideal.In

open Cert.Kernel2Ideal Cert.Kernel2Ideal.Gen
open Idealize.ShloMosaic
open Idealize.ShloMosaic.TcCoe Idealize.ShloMosaic.Tactic Idealize.SL.Sem

variable (m : (ℓ : Loc nD τ sig) → Buf (Elt Ideal) ℓ) (c : Dev nD) (t : Fin cfg0.N) (r : Fin 512) (s : Fin 4) (n : Fin 8192)
  (hs : s.val = t.val / 16) (hn : n.val = t.val % 16 * 512 + r.val)
include hs hn

/-- A modulated activation. -/
theorem act_blk (e : Fin 1024) :
    k0_pay1 (F := Ideal) (bx m c t) (ba m c t) (bb m c t) (ix2 r e) = Cert.In.act (ax m c) (asc m c) (ash m c) s n e := by
  rw [pay1_apply, bx_apply m c t r e 0 s n hs hn, ba_apply m c t e 0 0 s hs, bb_apply m c t e 0 0 s hs]
  rfl

/-- A column of the gated linear attention. -/
theorem gla_blk (j : Fin 2176) (hj : j.val < 2048) :
    k0_pay39 (F := Ideal) (k0_pay1 (F := Ideal) (bx m c t) (ba m c t) (bb m c t)) (bw2 m c t) (ix2 r j)
      = Cert.In.col (ax m c) (asc m c) (ash m c) (aw m c) s n ⟨704 + j.val, by omega⟩ := by
  rw [pay39_apply]
  exact Finset.sum_congr rfl fun e _ => by rw [act_blk m c t r s n hs hn e, bw2_apply, v53_apply m c e j hj]

/-- A compressed column. -/
theorem kv_blk (j : Fin 896) (h1 : 384 ≤ j.val) (h2 : j.val < 640) :
    k0_pay4 (F := Ideal) (bx m c t) (ba m c t) (bb m c t) (bw1 m c t) (ix2 r j)
      = Cert.In.col (ax m c) (asc m c) (ash m c) (aw m c) s n ⟨j.val, by omega⟩ := by
  rw [pay4_apply]
  exact Finset.sum_congr rfl fun e _ => by rw [act_blk m c t r s n hs hn e, bw1_apply, v51_apply m c e j h1 h2]

/-- The stored compressed rows. -/
theorem comp_blk (j : Fin 256) :
    k0_pay5 (F := Ideal) (bx m c t) (ba m c t) (bb m c t) (bw1 m c t) (bg m c t) (ix2 r j)
      = Cert.In.comp (ax m c) (asc m c) (ash m c) (aw m c) (ag m c) s n j := by
  have e : ∀ k : Fin 256, k0_pay4 (F := Ideal) (bx m c t) (ba m c t) (bb m c t) (bw1 m c t) (ix2 r ⟨384 + k.val, by omega⟩)
      = Cert.In.col (ax m c) (asc m c) (ash m c) (aw m c) s n ⟨384 + k.val, by omega⟩ := fun k =>
    kv_blk m c t r s n hs hn ⟨384 + k.val, by omega⟩ (by show 384 ≤ 384 + k.val; omega) (by show 384 + k.val < 640; omega)
  rw [pay5_apply, e j, Finset.sum_congr rfl fun k _ => by rw [e k], bg_apply, v60_apply]
  rfl

/-- The stored queries. -/
theorem query_blk (j : Fin 512) :
    k0_pay40 (F := Ideal) (k0_pay1 (F := Ideal) (bx m c t) (ba m c t) (bb m c t)) (bw2 m c t) (ix2 r j)
      = Cert.In.query (ax m c) (asc m c) (ash m c) (aw m c) s n j := by
  rw [pay40_apply, gla_blk m c t r s n hs hn ⟨j.val, by omega⟩ (by show j.val < 2048; omega)]
  rfl

/-- The stored keys. -/
theorem key_blk (j : Fin 512) :
    k0_pay41 (F := Ideal) (k0_pay1 (F := Ideal) (bx m c t) (ba m c t) (bb m c t)) (bw2 m c t) (ix2 r j)
      = Cert.In.key (ax m c) (asc m c) (ash m c) (aw m c) s n j := by
  rw [pay41_apply, gla_blk m c t r s n hs hn ⟨512 + j.val, by omega⟩ (by show 512 + j.val < 2048; omega)]
  exact congrArg (Cert.In.col _ _ _ _ s n) (Fin.ext (by show 704 + (512 + j.val) = 1216 + j.val; omega))

/-- The stored values. -/
theorem value_blk (j : Fin 1024) :
    k0_pay42 (F := Ideal) (k0_pay1 (F := Ideal) (bx m c t) (ba m c t) (bb m c t)) (bw2 m c t) (ix2 r j)
      = Cert.In.value (ax m c) (asc m c) (ash m c) (aw m c) s n j := by
  rw [pay42_apply, gla_blk m c t r s n hs hn ⟨1024 + j.val, by omega⟩ (by show 1024 + j.val < 2048; omega)]
  exact congrArg (Cert.In.col _ _ _ _ s n) (Fin.ext (by show 704 + (1024 + j.val) = 1728 + j.val; omega))

end Cert.Kernel2Ideal.In
-- ==== Proof.InOut.lean ====
/- What the input projection stores at a point, of the point's blocks. -/
module

public import proofs.«01_k».proof.Proof.InBlocks
public import proofs.«01_k».proof.Proof.InPart
public import Idealize.ShloMosaic.Lib.Pipeline.ValueKit

@[expose] public section

set_option maxRecDepth 16384
set_option maxHeartbeats 4000000
set_option Elab.async false

noncomputable section

namespace Cert.Kernel2Ideal.In

open Cert.Kernel2Ideal Cert.Kernel2Ideal.Gen
open Idealize.ShloMosaic
open Idealize.ShloMosaic.TcCoe Idealize.ShloMosaic.Tactic Idealize.SL.Sem

variable (m : (ℓ : Loc nD τ sig) → Buf (Elt Ideal) ℓ) (c : Dev nD)

/-- The compressed rows of a point. -/
theorem out13 (t : Fin cfg0.N) : (outsAt0 m c t).1 = k0_pay5 (F := Ideal) (bx m c t) (ba m c t) (bb m c t) (bw1 m c t) (bg m c t) := by
  unfold outsAt0
  frame_out

/-- The queries of a point. -/
theorem out18 (t : Fin cfg0.N) : (outsAt0 m c t).2.2.2.2.2.1 = k0_pay40 (F := Ideal) (k0_pay1 (F := Ideal) (bx m c t) (ba m c t) (bb m c t)) (bw2 m c t) := by
  unfold outsAt0
  frame_out

/-- The keys of a point. -/
theorem out19 (t : Fin cfg0.N) : (outsAt0 m c t).2.2.2.2.2.2.1 = k0_pay41 (F := Ideal) (k0_pay1 (F := Ideal) (bx m c t) (ba m c t) (bb m c t)) (bw2 m c t) := by
  unfold outsAt0
  frame_out

/-- The values of a point. -/
theorem out20 (t : Fin cfg0.N) : (outsAt0 m c t).2.2.2.2.2.2.2.1 = k0_pay42 (F := Ideal) (k0_pay1 (F := Ideal) (bx m c t) (ba m c t) (bb m c t)) (bw2 m c t) := by
  unfold outsAt0
  frame_out

end Cert.Kernel2Ideal.In
-- ==== Proof.InRef.lean ====
/- The reference of the input projection, at each element. -/
module

public import proofs.«01_k».proof.Proof.InTarget
public import proofs.«01_k».proof.Proof.Gen.Reference2Ideal
public import proofs.«01_k».proof.Proof.Gen.Reference2Ideal.Run
public import Idealize.ShloMosaic.Lib.Pointwise

@[expose] public section

set_option maxRecDepth 16384
set_option Elab.async false

noncomputable section

namespace Cert.Reference2Ideal.In

open Cert.Reference2Ideal Cert.Reference2Ideal.Gen Cert.Reference2Ideal.Value
open Idealize.ShloMosaic
open Idealize.ShloMosaic.TcCoe Idealize.ShloMosaic.Tactic Idealize.SL.Sem

/-- The reference's modulated activations. -/
def rh (x : FVec Ideal S4x8192x1024 .f32) (a b : FVec Ideal S4x1x1024 .f32) : FVec Ideal S4x8192x1024 .f32 :=
  addf (mulf x (broadcastInDim S4x8192x1024 ![0, 1, 2] bcast_S4x1x1024_S4x8192x1024_0_1_2 (addf (broadcastInDim S4x1x1024 ![] bcast_S_S4x1x1024 (constant S_ .f32 0x3F800000#32)) a))) (broadcastInDim S4x8192x1024 ![0, 1, 2] bcast_S4x1x1024_S4x8192x1024_0_1_2 b)

/-- The reference's combined projection. -/
def rz (h : FVec Ideal S4x8192x1024 .f32) (w : FVec Ideal S1024x5840 .f32) : FVec Ideal S4x8192x5840 .f32 :=
  Host.dotGeneral dot_S4x8192x1024_S1024x5840_S4x8192x5840_2_0_01_1_n_n none h w

/-- The reference's compressed columns. -/
def rkv (z : FVec Ideal S4x8192x5840 .f32) : FVec Ideal S4x8192x256 .f32 :=
  extractStridedSlice S4x8192x256 ![0, 0, 384] z slices_S4x8192x5840_S4x8192x256_0_0_384

/-- The reference's norm of them. -/
def rcomp (y : FVec Ideal S4x8192x256 .f32) (g : FVec Ideal S256 .f32) : FVec Ideal S32768x256 .f32 :=
  shapeCast _ (mulf (mulf y (broadcastInDim S4x8192x256 ![0, 1, 2] bcast_S4x8192x1_S4x8192x256_0_1_2 (Host.rsqrt (addf (Host.divf (broadcastInDim S4x8192x1 ![0, 1] bcast_S4x8192_S4x8192x1_0_1 (Host.reduceAdd (mulf y y) (constant S_ .f32 0x00000000#32) reducesTo_S4x8192x256_S4x8192_d2 h_S_)) (broadcastInDim S4x8192x1 ![] bcast_S_S4x8192x1 (constant S_ .f32 0x43800000#32))) (broadcastInDim S4x8192x1 ![] bcast_S_S4x8192x1 (constant S_ .f32 0x358637BD#32)))))) (broadcastInDim S4x8192x256 ![0, 1, 2] bcast_S1x1x256_S4x8192x256_0_1_2 (broadcastInDim S1x1x256 ![2] bcast_S256_S1x1x256_2 g))) shapeCasts_S4x8192x256_S32768x256

/-- The reference's queries. -/
def rquery (z : FVec Ideal S4x8192x5840 .f32) : FVec Ideal S32768x512 .f32 :=
  shapeCast _ (mulf (extractStridedSlice S4x8192x512 ![0, 0, 704] z slices_S4x8192x5840_S4x8192x512_0_0_704) (broadcastInDim S4x8192x512 ![] bcast_S_S4x8192x512 (constant S_ .f32 0x3DB504F3#32))) shapeCasts_S4x8192x512_S32768x512

/-- The reference's keys. -/
def rkey (z : FVec Ideal S4x8192x5840 .f32) : FVec Ideal S32768x512 .f32 :=
  shapeCast _ (extractStridedSlice S4x8192x512 ![0, 0, 1216] z slices_S4x8192x5840_S4x8192x512_0_0_1216) shapeCasts_S4x8192x512_S32768x512

/-- The reference's values. -/
def rvalue (z : FVec Ideal S4x8192x5840 .f32) : FVec Ideal S32768x1024 .bf16 :=
  truncf .bf16 (shapeCast _ (extractStridedSlice S4x8192x1024 ![0, 0, 1728] z slices_S4x8192x5840_S4x8192x1024_0_0_1728) shapeCasts_S4x8192x1024_S32768x1024) bitsLt_bf16_f32

/-- A modulated activation. -/
theorem rh_apply (x : FVec Ideal S4x8192x1024 .f32) (a b : FVec Ideal S4x1x1024 .f32) (s : Fin 4) (t : Fin 8192) (e : Fin 1024) :
    rh x a b (ix3 s t e) = Cert.In.act x a b s t e := by
  unfold Cert.In.act
  pointwise [rh]

/-- A projected column. -/
theorem rz_apply (h : FVec Ideal S4x8192x1024 .f32) (w : FVec Ideal S1024x5840 .f32) (s : Fin 4) (t : Fin 8192) (j : Fin 5840) :
    rz h w (ix3 s t j) = ∑ e : Fin 1024, h (ix3 s t e) * w (ix2 e j) := by
  pointwise [rz]

/-- The projection of the modulated activations. -/
theorem rz_col (x : FVec Ideal S4x8192x1024 .f32) (a b : FVec Ideal S4x1x1024 .f32) (w : FVec Ideal S1024x5840 .f32) (s : Fin 4) (t : Fin 8192) (j : Fin 5840) :
    rz (rh x a b) w (ix3 s t j) = Cert.In.col x a b w s t j := by
  rw [rz_apply]
  exact Finset.sum_congr rfl fun e _ => by rw [rh_apply]

/-- A compressed column. -/
theorem rkv_apply (z : FVec Ideal S4x8192x5840 .f32) (s : Fin 4) (t : Fin 8192) (j : Fin 256) :
    rkv z (ix3 s t j) = z (ix3 s t ⟨384 + j.val, by omega⟩) := by
  pointwise [rkv]

/-- A normed compressed row. -/
theorem rcomp_apply (y : FVec Ideal S4x8192x256 .f32) (g : FVec Ideal S256 .f32) (n : Fin 32768) (j : Fin 256) :
    rcomp y g (ix2 n j) = y (ix3 ⟨n.val / 8192, by omega⟩ ⟨n.val % 8192, by omega⟩ j)
      * Ideal.rsqrt (Ideal.div (∑ k : Fin 256, y (ix3 ⟨n.val / 8192, by omega⟩ ⟨n.val % 8192, by omega⟩ k) * y (ix3 ⟨n.val / 8192, by omega⟩ ⟨n.val % 8192, by omega⟩ k))
        (Ideal.ofBits .f32 0x43800000#32) + Ideal.ofBits .f32 0x358637BD#32) * g (ix1 j) := by
  pointwise [rcomp]

/-- A query. -/
theorem rquery_apply (z : FVec Ideal S4x8192x5840 .f32) (n : Fin 32768) (j : Fin 512) :
    rquery z (ix2 n j) = z (ix3 ⟨n.val / 8192, by omega⟩ ⟨n.val % 8192, by omega⟩ ⟨704 + j.val, by omega⟩) * Ideal.ofBits .f32 0x3DB504F3#32 := by
  pointwise [rquery]

/-- A key. -/
theorem rkey_apply (z : FVec Ideal S4x8192x5840 .f32) (n : Fin 32768) (j : Fin 512) :
    rkey z (ix2 n j) = z (ix3 ⟨n.val / 8192, by omega⟩ ⟨n.val % 8192, by omega⟩ ⟨1216 + j.val, by omega⟩) := by
  pointwise [rkey]

/-- A value. -/
theorem rvalue_apply (z : FVec Ideal S4x8192x5840 .f32) (n : Fin 32768) (j : Fin 1024) :
    rvalue z (ix2 n j) = z (ix3 ⟨n.val / 8192, by omega⟩ ⟨n.val % 8192, by omega⟩ ⟨1728 + j.val, by omega⟩) := by
  pointwise [rvalue]

/-- The reference's compressed rows are those of the target. -/
theorem comp_eq (x : FVec Ideal S4x8192x1024 .f32) (a b : FVec Ideal S4x1x1024 .f32) (w : FVec Ideal S1024x5840 .f32) (g : FVec Ideal S256 .f32) (n : Fin 32768) (j : Fin 256) :
    rcomp (rkv (rz (rh x a b) w)) g (ix2 n j) = Cert.In.comp x a b w g ⟨n.val / 8192, by omega⟩ ⟨n.val % 8192, by omega⟩ j := by
  rw [rcomp_apply]
  have e : ∀ k : Fin 256, rkv (rz (rh x a b) w) (ix3 ⟨n.val / 8192, by omega⟩ ⟨n.val % 8192, by omega⟩ k)
      = Cert.In.col x a b w ⟨n.val / 8192, by omega⟩ ⟨n.val % 8192, by omega⟩ ⟨384 + k.val, by omega⟩ := fun k => by
    rw [rkv_apply, rz_col]
  unfold Cert.In.comp
  rw [e j, Finset.sum_congr rfl fun k _ => by rw [e k]]

/-- The reference's results, by its parts. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v24) = rcomp (rkv (rz (rh (m ((c.tc : Thread nD τ).loc main_arg0)) (m ((c.tc : Thread nD τ).loc main_arg1)) (m ((c.tc : Thread nD τ).loc main_arg2))) (m ((c.tc : Thread nD τ).loc main_arg3)))) (m ((c.tc : Thread nD τ).loc main_arg6))
      ∧ r.2.mem ((c.tc : Thread nD τ).loc main_v27) = rquery (rz (rh (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v28) = rkey (rz (rh (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v30) = rvalue (rz (rh (m ((c.tc : Thread nD τ).loc main_arg0)) (m ((c.tc : Thread nD τ).loc main_arg1)) (m ((c.tc : Thread nD τ).loc main_arg2))) (m ((c.tc : Thread nD τ).loc main_arg3))))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨⟨(h c).1, (h c).2.1, (h c).2.2.1, (h c).2.2.2.1⟩, (h c).2.2.2.2⟩) (Value.run (F := Ideal) m ρ)

end Cert.Reference2Ideal.In
-- ==== Proof.InValue.lean ====
/- What the input projection leaves in its results, at each element, and that the reference's results are the same. -/
module

public import proofs.«01_k».proof.Proof.InOut
public import proofs.«01_k».proof.Proof.InRef

@[expose] public section

set_option maxRecDepth 16384
set_option Elab.async false

noncomputable section

namespace Cert.Kernel2Ideal.In

open Cert.Kernel2Ideal Cert.Kernel2Ideal.Gen
open Idealize.ShloMosaic
open Idealize.ShloMosaic.TcCoe Idealize.ShloMosaic.Tactic Idealize.SL.Sem

variable (m : (ℓ : Loc nD τ sig) → Buf (Elt Ideal) ℓ) (c : Dev nD)

/-- The compressed rows, as an array. -/
def comps : FVec Ideal S32768x256 .f32 := fun i =>
  Cert.In.comp (ax m c) (asc m c) (ash m c) (aw m c) (ag m c) ⟨(i 0).val / 8192, by have : (i 0).val < 32768 := (i 0).isLt; omega⟩ ⟨(i 0).val % 8192, by omega⟩ (i 1)

/-- The compressed rows' array ends with them. -/
theorem comps_eq : (dats m 0 c).arrAt 13 cfg0.N = comps m c := by
  refine (dats m 0 c).arrAt_eq_of_covers 13 (comps m c) covers13 fun t hf y => ?_
  have ht : t.val < 64 := t.isLt
  have hi := (outPlace t).1
  obtain ⟨r, j, hy⟩ : ∃ (r : Fin 512) (j : Fin 256), y = ix2 r j := ⟨y 0, y 1, eq_ix2 y⟩
  have hr := r.isLt
  have e : ((cfg0.win 13).blk t).view.emb y = ix2 (⟨t.val * 512 + r.val, by omega⟩ : Fin 32768) j := by
    rw [hy]
    refine funext fun a => Fin.ext ?_
    match a with
    | ⟨0, _⟩ => blk_simp [hi]
    | ⟨1, _⟩ => blk_simp [hi]
  rw [after0_13, out13]
  blk_simp
  rw [e, hy]
  exact comp_blk m c t r ⟨(t.val * 512 + r.val) / 8192, by omega⟩ ⟨(t.val * 512 + r.val) % 8192, by omega⟩
    (by show (t.val * 512 + r.val) / 8192 = t.val / 16; omega) (by show (t.val * 512 + r.val) % 8192 = t.val % 16 * 512 + r.val; omega) j

/-- The queries, as an array. -/
def querys : FVec Ideal S32768x512 .f32 := fun i =>
  Cert.In.query (ax m c) (asc m c) (ash m c) (aw m c) ⟨(i 0).val / 8192, by have : (i 0).val < 32768 := (i 0).isLt; omega⟩ ⟨(i 0).val % 8192, by omega⟩ (i 1)

/-- The queries' array ends with them. -/
theorem querys_eq : (dats m 0 c).arrAt 18 cfg0.N = querys m c := by
  refine (dats m 0 c).arrAt_eq_of_covers 18 (querys m c) covers18 fun t hf y => ?_
  have ht : t.val < 64 := t.isLt
  have hi := (outPlace t).2.1
  obtain ⟨r, j, hy⟩ : ∃ (r : Fin 512) (j : Fin 512), y = ix2 r j := ⟨y 0, y 1, eq_ix2 y⟩
  have hr := r.isLt
  have e : ((cfg0.win 18).blk t).view.emb y = ix2 (⟨t.val * 512 + r.val, by omega⟩ : Fin 32768) j := by
    rw [hy]
    refine funext fun a => Fin.ext ?_
    match a with
    | ⟨0, _⟩ => blk_simp [hi]
    | ⟨1, _⟩ => blk_simp [hi]
  rw [after0_18, out18]
  blk_simp
  rw [e, hy]
  exact query_blk m c t r ⟨(t.val * 512 + r.val) / 8192, by omega⟩ ⟨(t.val * 512 + r.val) % 8192, by omega⟩
    (by show (t.val * 512 + r.val) / 8192 = t.val / 16; omega) (by show (t.val * 512 + r.val) % 8192 = t.val % 16 * 512 + r.val; omega) j

/-- The keys, as an array. -/
def keys : FVec Ideal S32768x512 .f32 := fun i =>
  Cert.In.key (ax m c) (asc m c) (ash m c) (aw m c) ⟨(i 0).val / 8192, by have : (i 0).val < 32768 := (i 0).isLt; omega⟩ ⟨(i 0).val % 8192, by omega⟩ (i 1)

/-- The keys' array ends with them. -/
theorem keys_eq : (dats m 0 c).arrAt 19 cfg0.N = keys m c := by
  refine (dats m 0 c).arrAt_eq_of_covers 19 (keys m c) covers19 fun t hf y => ?_
  have ht : t.val < 64 := t.isLt
  have hi := (outPlace t).2.2.1
  obtain ⟨r, j, hy⟩ : ∃ (r : Fin 512) (j : Fin 512), y = ix2 r j := ⟨y 0, y 1, eq_ix2 y⟩
  have hr := r.isLt
  have e : ((cfg0.win 19).blk t).view.emb y = ix2 (⟨t.val * 512 + r.val, by omega⟩ : Fin 32768) j := by
    rw [hy]
    refine funext fun a => Fin.ext ?_
    match a with
    | ⟨0, _⟩ => blk_simp [hi]
    | ⟨1, _⟩ => blk_simp [hi]
  rw [after0_19, out19]
  blk_simp
  rw [e, hy]
  exact key_blk m c t r ⟨(t.val * 512 + r.val) / 8192, by omega⟩ ⟨(t.val * 512 + r.val) % 8192, by omega⟩
    (by show (t.val * 512 + r.val) / 8192 = t.val / 16; omega) (by show (t.val * 512 + r.val) % 8192 = t.val % 16 * 512 + r.val; omega) j

/-- The values, as an array. -/
def values : FVec Ideal S32768x1024 .bf16 := fun i =>
  Cert.In.value (ax m c) (asc m c) (ash m c) (aw m c) ⟨(i 0).val / 8192, by have : (i 0).val < 32768 := (i 0).isLt; omega⟩ ⟨(i 0).val % 8192, by omega⟩ (i 1)

/-- The values' array ends with them. -/
theorem values_eq : (dats m 0 c).arrAt 20 cfg0.N = values m c := by
  refine (dats m 0 c).arrAt_eq_of_covers 20 (values m c) covers20 fun t hf y => ?_
  have ht : t.val < 64 := t.isLt
  have hi := (outPlace t).2.2.2
  obtain ⟨r, j, hy⟩ : ∃ (r : Fin 512) (j : Fin 1024), y = ix2 r j := ⟨y 0, y 1, eq_ix2 y⟩
  have hr := r.isLt
  have e : ((cfg0.win 20).blk t).view.emb y = ix2 (⟨t.val * 512 + r.val, by omega⟩ : Fin 32768) j := by
    rw [hy]
    refine funext fun a => Fin.ext ?_
    match a with
    | ⟨0, _⟩ => blk_simp [hi]
    | ⟨1, _⟩ => blk_simp [hi]
  rw [after0_20, out20]
  blk_simp
  rw [e, hy]
  exact value_blk m c t r ⟨(t.val * 512 + r.val) / 8192, by omega⟩ ⟨(t.val * 512 + r.val) % 8192, by omega⟩
    (by show (t.val * 512 + r.val) / 8192 = t.val / 16; omega) (by show (t.val * 512 + r.val) % 8192 = t.val % 16 * 512 + r.val; omega) j

/-- The reference's compressed rows are the kernel's, from equal arguments. -/
theorem comps_ref (x : FVec Ideal S4x8192x1024 .f32) (a b : FVec Ideal S4x1x1024 .f32) (w : FVec Ideal S1024x5840 .f32) (g : FVec Ideal S256 .f32)
    (hx : x = ax m c) (ha : a = asc m c) (hb : b = ash m c) (hw : w = aw m c) (hg : g = ag m c) :
    Cert.Reference2Ideal.In.rcomp (Cert.Reference2Ideal.In.rkv (Cert.Reference2Ideal.In.rz (Cert.Reference2Ideal.In.rh x a b) w)) g = comps m c := by
  subst hx ha hb hw hg
  funext i
  rw [eq_ix2 i]
  exact Cert.Reference2Ideal.In.comp_eq _ _ _ _ _ (i 0) (i 1)

/-- The reference's queries are the kernel's, from equal arguments. -/
theorem querys_ref (x : FVec Ideal S4x8192x1024 .f32) (a b : FVec Ideal S4x1x1024 .f32) (w : FVec Ideal S1024x5840 .f32)
    (hx : x = ax m c) (ha : a = asc m c) (hb : b = ash m c) (hw : w = aw m c) :
    Cert.Reference2Ideal.In.rquery (Cert.Reference2Ideal.In.rz (Cert.Reference2Ideal.In.rh x a b) w) = querys m c := by
  subst hx ha hb hw
  funext i
  rw [eq_ix2 i, Cert.Reference2Ideal.In.rquery_apply _ (i 0) (i 1), Cert.Reference2Ideal.In.rz_col]
  rfl

/-- The reference's keys are the kernel's, from equal arguments. -/
theorem keys_ref (x : FVec Ideal S4x8192x1024 .f32) (a b : FVec Ideal S4x1x1024 .f32) (w : FVec Ideal S1024x5840 .f32)
    (hx : x = ax m c) (ha : a = asc m c) (hb : b = ash m c) (hw : w = aw m c) :
    Cert.Reference2Ideal.In.rkey (Cert.Reference2Ideal.In.rz (Cert.Reference2Ideal.In.rh x a b) w) = keys m c := by
  subst hx ha hb hw
  funext i
  rw [eq_ix2 i, Cert.Reference2Ideal.In.rkey_apply _ (i 0) (i 1), Cert.Reference2Ideal.In.rz_col]
  rfl

/-- The reference's values are the kernel's, from equal arguments. -/
theorem values_ref (x : FVec Ideal S4x8192x1024 .f32) (a b : FVec Ideal S4x1x1024 .f32) (w : FVec Ideal S1024x5840 .f32)
    (hx : x = ax m c) (ha : a = asc m c) (hb : b = ash m c) (hw : w = aw m c) :
    Cert.Reference2Ideal.In.rvalue (Cert.Reference2Ideal.In.rz (Cert.Reference2Ideal.In.rh x a b) w) = values m c := by
  subst hx ha hb hw
  funext i
  rw [eq_ix2 i, Cert.Reference2Ideal.In.rvalue_apply _ (i 0) (i 1), Cert.Reference2Ideal.In.rz_col]
  rfl

end Cert.Kernel2Ideal.In
-- ==== Proof.lean ====
/- The proof of the claims: the runs of the two kernel programs and of the reference, and the equality of their results. -/
module

public import proofs.«01_k».proof.Defs
public import proofs.«01_k».proof.Proof.Run
public import proofs.«01_k».proof.Proof.Equal
public import proofs.«01_k».proof.Proof.Gen.Kernel
public import proofs.«01_k».proof.Proof.Gen.Kernel2
public import proofs.«01_k».proof.Proof.Gen.Kernel2Ideal
public import proofs.«01_k».proof.Proof.InValue
public import proofs.«01_k».proof.Proof.Gen.Reference2Ideal
public import proofs.«01_k».proof.Proof.Gen.Reference2Ideal.Run
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Proof

open Idealize.ShloMosaic Idealize.ShloMosaic.Tactic Idealize.SL.Sem

/-- The frame of the program the run is written for, over any float values. -/
def Frame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The run gives the frame. -/
theorem frame (F : FTy → Type) [FloatOps F] : Frame F := fun m ρ _ =>
  (θ_run Cert.KernelIdeal.defs _ _).mono (fun _ h => ⟨fun c => (h.1 c).2, h.2⟩) (Cert.KernelIdeal.Attn.run_main m ρ)

/-- The kernel's frame: the two programs are the same text, so it is the frame above read over the bits. -/
theorem frame_kernel : Cert.quiescent_Kernel := Eq.mp (by sl_kernel_rfl : Frame Bits = Cert.quiescent_Kernel) (frame Bits)

/-- The idealized kernel's frame. -/
theorem frame_ideal : Cert.quiescent_KernelIdeal := frame Ideal

/-- The idealized reference's frame: it has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The precondition makes every argument an array of reals. -/
theorem args_real (m : (ℓ : Loc Cert.KernelIdeal.nD Cert.KernelIdeal.τ Cert.KernelIdeal.sig) → Buf (Elt Ideal) ℓ) (h : Cert.Pre_KernelIdeal_finite m)
    (c : Dev Cert.KernelIdeal.nD) :
    Cert.KernelIdeal.Attn.AreReals m c (realsOf (Cert.KernelIdeal.Attn.aq m c) (Cert.KernelIdeal.Attn.ar m c) (Cert.KernelIdeal.Attn.ak m c) (Cert.KernelIdeal.Attn.ae m c)) where
  q := reals_of_finite _ Cert.Pre_finite.Gen.bcast_S_S4x8192x8x256 (h c).1
  r := reals_of_finite _ Cert.Pre_finite.Gen.bcast_S_S4x8192x8x64 (h c).2.1
  k := reals_of_finite _ Cert.Pre_finite.Gen.bcast_S_S4x8192x256 (h c).2.2.1
  e := reals_of_finite _ Cert.Pre_finite.Gen.bcast_S_S4x8192x64 (h c).2.2.2

/-- The kernel and the reference, from the same finite arguments, end with the same result. -/
theorem equal_results : Cert.algebraic_KernelIdeal_ReferenceIdeal_pre_finite := fun m g m' g' hpre hag =>
  ⟨fun c => Cert.KernelIdeal.Attn.result m c,
    (θ_run Cert.KernelIdeal.defs _ _).mono (fun _ h => h.1) (Cert.KernelIdeal.Attn.run_main m g),
    (θ_run Cert.ReferenceIdeal.defs _ _).mono (fun r h c => ⟨(h c).1.trans (by
        rw [Cert.ReferenceIdeal.Attn.res_eq]
        funext i
        rw [eq_ix4 i]
        exact results_eq m c _ (args_real m hpre c) _ _ _ _ (hag c).1 (hag c).2.1 (hag c).2.2.1 (hag c).2.2.2 _ _ _ _), (h c).2⟩)
      (Cert.ReferenceIdeal.Value.run (F := Ideal) m' g')⟩

/-- The frame of the input projection, over any float values. -/
def Frame2 (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

/-- The run gives it. -/
theorem frame2 (F : FTy → Type) [FloatOps F] : Frame2 F := fun m ρ _ => Cert.Kernel2Ideal.Gen.frame m ρ

/-- The input projection's frame: the two programs are the same text, so it is the frame above read over the bits. -/
theorem frame_kernel2 : Cert.quiescent_Kernel2 := Eq.mp (by sl_kernel_rfl : Frame2 Bits = Cert.quiescent_Kernel2) (frame2 Bits)

/-- The idealized input projection's frame. -/
theorem frame_ideal2 : Cert.quiescent_Kernel2Ideal := frame2 Ideal

/-- The frame of the input projection's reference: it has no semaphores. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.In.run m ρ)

/-- The input projection and its reference, from the same arguments, end with the same results. -/
theorem equal_results2 : Cert.algebraic_Kernel2Ideal_Reference2Ideal := fun m g m' g' hpre hag =>
  ⟨fun c => Cert.Kernel2Ideal.In.comps m c, fun c => Cert.Kernel2Ideal.In.querys m c, fun c => Cert.Kernel2Ideal.In.keys m c, fun c => Cert.Kernel2Ideal.In.values m c,
    (θ_run Cert.Kernel2Ideal.defs _ _).mono (fun r h c => by
      obtain ⟨h13, -, -, -, -, h18, h19, h20, -, hargs⟩ := h c
      exact ⟨h13.trans (Cert.Kernel2Ideal.In.comps_eq m c), h18.trans (Cert.Kernel2Ideal.In.querys_eq m c), h19.trans (Cert.Kernel2Ideal.In.keys_eq m c),
        h20.trans (Cert.Kernel2Ideal.In.values_eq m c), hargs⟩) (Cert.Kernel2Ideal.Value.run_blocks m g),
    (θ_run Cert.Reference2Ideal.defs _ _).mono (fun r h c => by
      obtain ⟨⟨h13, h18, h19, h20⟩, hargs⟩ := h c
      obtain ⟨e0, e1, e2, e3, -, -, e6, -⟩ := hag c
      exact ⟨h13.trans (Cert.Kernel2Ideal.In.comps_ref m c _ _ _ _ _ e0 e1 e2 e3 e6), h18.trans (Cert.Kernel2Ideal.In.querys_ref m c _ _ _ _ e0 e1 e2 e3),
        h19.trans (Cert.Kernel2Ideal.In.keys_ref m c _ _ _ _ e0 e1 e2 e3), h20.trans (Cert.Kernel2Ideal.In.values_ref m c _ _ _ _ e0 e1 e2 e3), hargs⟩)
      (Cert.Reference2Ideal.In.run m' g')⟩

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  frame_kernel, frame_ideal, fun m ρ _ => frame_ideal m ρ trivial, frame_reference, fun m ρ _ => frame_reference m ρ trivial,
  frame_kernel2, frame_ideal2, frame_reference2, trivial, equal_results, trivial, equal_results2⟩

end Cert.Proof

end
